-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S16x128x2048 : Shape := ⟨3, ![16, 128, 2048]⟩
abbrev S2x524288 : Shape := ⟨2, ![2, 524288]⟩
abbrev S_ : Shape := ⟨0, ![]⟩
abbrev S128 : Shape := ⟨1, ![128]⟩
abbrev S256x128x3 : Shape := ⟨3, ![256, 128, 3]⟩
abbrev S256 : Shape := ⟨1, ![256]⟩
abbrev S256x128 : Shape := ⟨2, ![256, 128]⟩
abbrev S256x256 : Shape := ⟨2, ![256, 256]⟩

class Facts : Prop where
  bcast_S_S16x128x2048 : S_.BroadcastsInDim S16x128x2048 (![] : Fin 0 → Fin S16x128x2048.rank)
  reducesTo_S16x128x2048_S_d0_1_2 : S16x128x2048.ReducesTo [0, 1, 2] S_
  h_S_ : 0 < S_.numel
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg11 : FVec F S256x256 .f32) (main_arg12 : FVec F S256 .f32) (main_arg13 : FVec F S256x256 .f32) (main_arg14 : FVec F S256 .f32) (main_v33 : IVec S_ 1) : IVec S_ 1 :=
  let main_v34 : FVec F S256x256 .f32 := Host.absf main_arg11
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg12
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg13
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg14
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg8 : FVec F S256 .f32) (main_arg9 : FVec F S256 .f32) (main_arg10 : FVec F S256 .f32) (main_arg11 : FVec F S256x256 .f32) (main_arg12 : FVec F S256 .f32) (main_arg13 : FVec F S256x256 .f32) (main_arg14 : FVec F S256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256 .f32 := Host.absf main_arg8
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg9
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg10
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg11 main_arg12 main_arg13 main_arg14 main_v33

def fn {F : FTy → Type} [FloatOps F] (main_arg0 : FVec F S16x128x2048 .f32) (main_arg1 : IVec S2x524288 32) (main_arg2 : IVec S_ 32) (main_arg3 : FVec F S128 .f32) (main_arg4 : FVec F S128 .f32) (main_arg5 : FVec F S256x128x3 .f32) (main_arg6 : FVec F S256 .f32) (main_arg7 : FVec F S256x128 .f32) (main_arg8 : FVec F S256 .f32) (main_arg9 : FVec F S256 .f32) (main_arg10 : FVec F S256 .f32) (main_arg11 : FVec F S256x256 .f32) (main_arg12 : FVec F S256 .f32) (main_arg13 : FVec F S256x256 .f32) (main_arg14 : FVec F S256 .f32) : IVec S_ 1 :=
  let main_v0 : FVec F S16x128x2048 .f32 := Host.absf main_arg0
  let main_cst : FVec F S_ .f32 := constant S_ .f32 0x7F800000#32
  let main_v1 : FVec F S16x128x2048 .f32 := broadcastInDim S16x128x2048 ![] bcast_S_S16x128x2048 main_cst
  let main_v2 : IVec S16x128x2048 1 := cmpf .olt main_v0 main_v1
  let main_c : IVec S_ 1 := constantI S_ 1 1#1
  let main_v3 : IVec S_ 1 := (fun x v => Host.reduce IntOp.andi x v reducesTo_S16x128x2048_S_d0_1_2 h_S_) main_v2 main_c
  let main_v4 : FVec F S128 .f32 := Host.absf main_arg3
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg7
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg8 main_arg9 main_arg10 main_arg11 main_arg12 main_arg13 main_arg14 main_v13 main_v16
-- ==== Kernel.lean ====
abbrev S16x128x2048 : Shape := ⟨3, ![16, 128, 2048]⟩
abbrev S2x524288 : Shape := ⟨2, ![2, 524288]⟩
abbrev S_ : Shape := ⟨0, ![]⟩
abbrev S128 : Shape := ⟨1, ![128]⟩
abbrev S256x128x3 : Shape := ⟨3, ![256, 128, 3]⟩
abbrev S256 : Shape := ⟨1, ![256]⟩
abbrev S256x128 : Shape := ⟨2, ![256, 128]⟩
abbrev S256x256 : Shape := ⟨2, ![256, 256]⟩
abbrev S1x128 : Shape := ⟨2, ![1, 128]⟩
abbrev S1x256 : Shape := ⟨2, ![1, 256]⟩
abbrev S256x128x1 : Shape := ⟨3, ![256, 128, 1]⟩
abbrev S256x384 : Shape := ⟨2, ![256, 384]⟩
abbrev S32768x256 : Shape := ⟨2, ![32768, 256]⟩
abbrev S128x1 : Shape := ⟨2, ![128, 1]⟩
abbrev S128x256 : Shape := ⟨2, ![128, 256]⟩
abbrev S4x128x2048 : Shape := ⟨3, ![4, 128, 2048]⟩
abbrev S8192x256 : Shape := ⟨2, ![8192, 256]⟩
abbrev S128x2048 : Shape := ⟨2, ![128, 2048]⟩
abbrev S1x128x2048 : Shape := ⟨3, ![1, 128, 2048]⟩
abbrev S2048x128 : Shape := ⟨2, ![2048, 128]⟩
abbrev S2048x256 : Shape := ⟨2, ![2048, 256]⟩
abbrev S4x1x256 : Shape := ⟨3, ![4, 1, 256]⟩
abbrev S1x1x256 : Shape := ⟨3, ![1, 1, 256]⟩
abbrev S256x1 : Shape := ⟨2, ![256, 1]⟩
abbrev S1x128x1x256 : Shape := ⟨4, ![1, 128, 1, 256]⟩
abbrev S4x128x16x256 : Shape := ⟨4, ![4, 128, 16, 256]⟩
abbrev S16x256x2048 : Shape := ⟨3, ![16, 256, 2048]⟩
abbrev S4x256x2048 : Shape := ⟨3, ![4, 256, 2048]⟩
abbrev S128x2047 : Shape := ⟨2, ![128, 2047]⟩
abbrev S384x2048 : Shape := ⟨2, ![384, 2048]⟩
abbrev S256x2048 : Shape := ⟨2, ![256, 2048]⟩
abbrev S1x256x2048 : Shape := ⟨3, ![1, 256, 2048]⟩

abbrev nBuf : Space → Nat
  | .hbm => 43
  | .vmem => 59
  | .smem => 0
  | _ => 0

abbrev bufTy : (tb : Table) → Fin (tcTables nBuf tb) → BufTy
  | .hbm, ⟨0, _⟩ => ⟨S16x128x2048, .f32⟩
  | .hbm, ⟨1, _⟩ => ⟨S2x524288, .i32⟩
  | .hbm, ⟨2, _⟩ => ⟨S_, .i32⟩
  | .hbm, ⟨3, _⟩ => ⟨S128, .f32⟩
  | .hbm, ⟨4, _⟩ => ⟨S128, .f32⟩
  | .hbm, ⟨5, _⟩ => ⟨S256x128x3, .f32⟩
  | .hbm, ⟨6, _⟩ => ⟨S256, .f32⟩
  | .hbm, ⟨7, _⟩ => ⟨S256x128, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S1x128, .f32⟩
  | .hbm, ⟨16, _⟩ => ⟨S1x128, .f32⟩
  | .hbm, ⟨17, _⟩ => ⟨S1x256, .f32⟩
  | .hbm, ⟨18, _⟩ => ⟨S1x256, .f32⟩
  | .hbm, ⟨19, _⟩ => ⟨S256x128x1, .f32⟩
  | .hbm, ⟨20, _⟩ => ⟨S256x128, .f32⟩
  | .hbm, ⟨21, _⟩ => ⟨S256x128x1, .f32⟩
  | .hbm, ⟨22, _⟩ => ⟨S256x128, .f32⟩
  | .hbm, ⟨23, _⟩ => ⟨S256x128x1, .f32⟩
  | .hbm, ⟨24, _⟩ => ⟨S256x128, .f32⟩
  | .hbm, ⟨25, _⟩ => ⟨S256x384, .f32⟩
  | .hbm, ⟨26, _⟩ => ⟨S256x384, .bf16⟩
  | .hbm, ⟨27, _⟩ => ⟨S1x256, .f32⟩
  | .hbm, ⟨28, _⟩ => ⟨S32768x256, .bf16⟩
  | .hbm, ⟨29, _⟩ => ⟨S128x1, .f32⟩
  | .hbm, ⟨30, _⟩ => ⟨S128x1, .f32⟩
  | .hbm, ⟨31, _⟩ => ⟨S128x256, .f32⟩
  | .hbm, ⟨32, _⟩ => ⟨S128x256, .f32⟩
  | .hbm, ⟨33, _⟩ => ⟨S1x256, .f32⟩
  | .hbm, ⟨34, _⟩ => ⟨S1x256, .f32⟩
  | .hbm, ⟨35, _⟩ => ⟨S32768x256, .bf16⟩
  | .hbm, ⟨36, _⟩ => ⟨S4x1x256, .f32⟩
  | .hbm, ⟨37, _⟩ => ⟨S4x1x256, .f32⟩
  | .hbm, ⟨38, _⟩ => ⟨S1x256, .f32⟩
  | .hbm, ⟨39, _⟩ => ⟨S32768x256, .bf16⟩
  | .hbm, ⟨40, _⟩ => ⟨S4x1x256, .f32⟩
  | .hbm, ⟨41, _⟩ => ⟨S4x1x256, .f32⟩
  | .hbm, ⟨42, _⟩ => ⟨S16x256x2048, .f32⟩
  | .local _ .vmem, ⟨0, _⟩ => ⟨S4x128x2048, .f32⟩
  | .local _ .vmem, ⟨1, _⟩ => ⟨S4x128x2048, .f32⟩
  | .local _ .vmem, ⟨2, _⟩ => ⟨S256x128, .f32⟩
  | .local _ .vmem, ⟨3, _⟩ => ⟨S8192x256, .bf16⟩
  | .local _ .vmem, ⟨4, _⟩ => ⟨S8192x256, .bf16⟩
  | .local _ .vmem, ⟨5, _⟩ => ⟨S128x1, .f32⟩
  | .local _ .vmem, ⟨6, _⟩ => ⟨S128x1, .f32⟩
  | .local _ .vmem, ⟨7, _⟩ => ⟨S128x256, .f32⟩
  | .local _ .vmem, ⟨8, _⟩ => ⟨S128x256, .f32⟩
  | .local _ .vmem, ⟨9, _⟩ => ⟨S8192x256, .bf16⟩
  | .local _ .vmem, ⟨10, _⟩ => ⟨S8192x256, .bf16⟩
  | .local _ .vmem, ⟨11, _⟩ => ⟨S128x1, .f32⟩
  | .local _ .vmem, ⟨12, _⟩ => ⟨S128x1, .f32⟩
  | .local _ .vmem, ⟨13, _⟩ => ⟨S1x128, .f32⟩
  | .local _ .vmem, ⟨14, _⟩ => ⟨S1x128, .f32⟩
  | .local _ .vmem, ⟨15, _⟩ => ⟨S128x256, .f32⟩
  | .local _ .vmem, ⟨16, _⟩ => ⟨S128x256, .f32⟩
  | .local _ .vmem, ⟨17, _⟩ => ⟨S256x128, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S256x256, .f32⟩
  | .local _ .vmem, ⟨22, _⟩ => ⟨S1x256, .f32⟩
  | .local _ .vmem, ⟨23, _⟩ => ⟨S8192x256, .bf16⟩
  | .local _ .vmem, ⟨24, _⟩ => ⟨S8192x256, .bf16⟩
  | .local _ .vmem, ⟨25, _⟩ => ⟨S1x1x256, .f32⟩
  | .local _ .vmem, ⟨26, _⟩ => ⟨S1x1x256, .f32⟩
  | .local _ .vmem, ⟨27, _⟩ => ⟨S1x1x256, .f32⟩
  | .local _ .vmem, ⟨28, _⟩ => ⟨S1x1x256, .f32⟩
  | .local _ .vmem, ⟨29, _⟩ => ⟨S8192x256, .bf16⟩
  | .local _ .vmem, ⟨30, _⟩ => ⟨S8192x256, .bf16⟩
  | .local _ .vmem, ⟨31, _⟩ => ⟨S4x1x256, .f32⟩
  | .local _ .vmem, ⟨32, _⟩ => ⟨S4x1x256, .f32⟩
  | .local _ .vmem, ⟨33, _⟩ => ⟨S1x256, .f32⟩
  | .local _ .vmem, ⟨34, _⟩ => ⟨S1x256, .f32⟩
  | .local _ .vmem, ⟨35, _⟩ => ⟨S256x256, .f32⟩
  | .local _ .vmem, ⟨36, _⟩ => ⟨S1x256, .f32⟩
  | .local _ .vmem, ⟨37, _⟩ => ⟨S8192x256, .bf16⟩
  | .local _ .vmem, ⟨38, _⟩ => ⟨S8192x256, .bf16⟩
  | .local _ .vmem, ⟨39, _⟩ => ⟨S1x1x256, .f32⟩
  | .local _ .vmem, ⟨40, _⟩ => ⟨S1x1x256, .f32⟩
  | .local _ .vmem, ⟨41, _⟩ => ⟨S1x1x256, .f32⟩
  | .local _ .vmem, ⟨42, _⟩ => ⟨S1x1x256, .f32⟩
  | .local _ .vmem, ⟨43, _⟩ => ⟨S4x128x2048, .f32⟩
  | .local _ .vmem, ⟨44, _⟩ => ⟨S4x128x2048, .f32⟩
  | .local _ .vmem, ⟨45, _⟩ => ⟨S128x1, .f32⟩
  | .local _ .vmem, ⟨46, _⟩ => ⟨S128x1, .f32⟩
  | .local _ .vmem, ⟨47, _⟩ => ⟨S1x128, .f32⟩
  | .local _ .vmem, ⟨48, _⟩ => ⟨S1x128, .f32⟩
  | .local _ .vmem, ⟨49, _⟩ => ⟨S256x384, .bf16⟩
  | .local _ .vmem, ⟨50, _⟩ => ⟨S1x256, .f32⟩
  | .local _ .vmem, ⟨51, _⟩ => ⟨S8192x256, .bf16⟩
  | .local _ .vmem, ⟨52, _⟩ => ⟨S8192x256, .bf16⟩
  | .local _ .vmem, ⟨53, _⟩ => ⟨S4x1x256, .f32⟩
  | .local _ .vmem, ⟨54, _⟩ => ⟨S4x1x256, .f32⟩
  | .local _ .vmem, ⟨55, _⟩ => ⟨S1x256, .f32⟩
  | .local _ .vmem, ⟨56, _⟩ => ⟨S1x256, .f32⟩
  | .local _ .vmem, ⟨57, _⟩ => ⟨S4x256x2048, .f32⟩
  | .local _ .vmem, ⟨58, _⟩ => ⟨S4x256x2048, .f32⟩
  | _, _ => ⟨S16x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev main_v13_2 : Ref sig .tc := ⟨.hbm, 30, rfl⟩
abbrev main_v13_3 : Ref sig .tc := ⟨.hbm, 31, rfl⟩
abbrev main_v13_4 : Ref sig .tc := ⟨.hbm, 32, rfl⟩
abbrev main_v14 : Ref sig .tc := ⟨.hbm, 33, rfl⟩
abbrev main_v15 : Ref sig .tc := ⟨.hbm, 34, rfl⟩
abbrev main_v16_0 : Ref sig .tc := ⟨.hbm, 35, rfl⟩
abbrev main_v16_1 : Ref sig .tc := ⟨.hbm, 36, rfl⟩
abbrev main_v16_2 : Ref sig .tc := ⟨.hbm, 37, rfl⟩
abbrev main_v17 : Ref sig .tc := ⟨.hbm, 38, rfl⟩
abbrev main_v18_0 : Ref sig .tc := ⟨.hbm, 39, rfl⟩
abbrev main_v18_1 : Ref sig .tc := ⟨.hbm, 40, rfl⟩
abbrev main_v18_2 : Ref sig .tc := ⟨.hbm, 41, rfl⟩
abbrev main_v19 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg12_0 : Ref sig .tc := ⟨.vmem, 22, rfl⟩
abbrev cc1_stg13_0 : Ref sig .tc := ⟨.vmem, 23, rfl⟩
abbrev cc1_stg13_1 : Ref sig .tc := ⟨.vmem, 24, rfl⟩
abbrev cc1_stg14_0 : Ref sig .tc := ⟨.vmem, 25, rfl⟩
abbrev cc1_stg14_1 : Ref sig .tc := ⟨.vmem, 26, rfl⟩
abbrev cc1_stg15_0 : Ref sig .tc := ⟨.vmem, 27, rfl⟩
abbrev cc1_stg15_1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg7_1 : Ref sig .tc := ⟨.vmem, 38, rfl⟩
abbrev cc2_stg8_0 : Ref sig .tc := ⟨.vmem, 39, rfl⟩
abbrev cc2_stg8_1 : Ref sig .tc := ⟨.vmem, 40, rfl⟩
abbrev cc2_stg9_0 : Ref sig .tc := ⟨.vmem, 41, rfl⟩
abbrev cc2_stg9_1 : Ref sig .tc := ⟨.vmem, 42, rfl⟩
abbrev cc3_stg0_0 : Ref sig .tc := ⟨.vmem, 43, rfl⟩
abbrev cc3_stg0_1 : Ref sig .tc := ⟨.vmem, 44, rfl⟩
abbrev cc3_stg1_0 : Ref sig .tc := ⟨.vmem, 45, rfl⟩
abbrev cc3_stg2_0 : Ref sig .tc := ⟨.vmem, 46, rfl⟩
abbrev cc3_stg3_0 : Ref sig .tc := ⟨.vmem, 47, rfl⟩
abbrev cc3_stg4_0 : Ref sig .tc := ⟨.vmem, 48, rfl⟩
abbrev cc3_stg5_0 : Ref sig .tc := ⟨.vmem, 49, rfl⟩
abbrev cc3_stg6_0 : Ref sig .tc := ⟨.vmem, 50, rfl⟩
abbrev cc3_stg7_0 : Ref sig .tc := ⟨.vmem, 51, rfl⟩
abbrev cc3_stg7_1 : Ref sig .tc := ⟨.vmem, 52, rfl⟩
abbrev cc3_stg8_0 : Ref sig .tc := ⟨.vmem, 53, rfl⟩
abbrev cc3_stg9_0 : Ref sig .tc := ⟨.vmem, 54, rfl⟩
abbrev cc3_stg10_0 : Ref sig .tc := ⟨.vmem, 55, rfl⟩
abbrev cc3_stg11_0 : Ref sig .tc := ⟨.vmem, 56, rfl⟩
abbrev cc3_stg12_0 : Ref sig .tc := ⟨.vmem, 57, rfl⟩
abbrev cc3_stg12_1 : Ref sig .tc := ⟨.vmem, 58, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem12_0 : DmaSem sig := 22
abbrev cc1_sem13_0 : DmaSem sig := 23
abbrev cc1_sem13_1 : DmaSem sig := 24
abbrev cc1_sem14_0 : DmaSem sig := 25
abbrev cc1_sem14_1 : DmaSem sig := 26
abbrev cc1_sem15_0 : DmaSem sig := 27
abbrev cc1_sem15_1 : DmaSem sig := 28
abbrev cc2_sem0_0 : DmaSem sig := 29
abbrev cc2_sem0_1 : DmaSem sig := 30
abbrev cc2_sem1_0 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem7_1 : DmaSem sig := 38
abbrev cc2_sem8_0 : DmaSem sig := 39
abbrev cc2_sem8_1 : DmaSem sig := 40
abbrev cc2_sem9_0 : DmaSem sig := 41
abbrev cc2_sem9_1 : DmaSem sig := 42
abbrev cc3_sem0_0 : DmaSem sig := 43
abbrev cc3_sem0_1 : DmaSem sig := 44
abbrev cc3_sem1_0 : DmaSem sig := 45
abbrev cc3_sem2_0 : DmaSem sig := 46
abbrev cc3_sem3_0 : DmaSem sig := 47
abbrev cc3_sem4_0 : DmaSem sig := 48
abbrev cc3_sem5_0 : DmaSem sig := 49
abbrev cc3_sem6_0 : DmaSem sig := 50
abbrev cc3_sem7_0 : DmaSem sig := 51
abbrev cc3_sem7_1 : DmaSem sig := 52
abbrev cc3_sem8_0 : DmaSem sig := 53
abbrev cc3_sem9_0 : DmaSem sig := 54
abbrev cc3_sem10_0 : DmaSem sig := 55
abbrev cc3_sem11_0 : DmaSem sig := 56
abbrev cc3_sem12_0 : DmaSem sig := 57
abbrev cc3_sem12_1 : DmaSem sig := 58

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32_28 : BitVec 32 := 0#32
  let v92 : BitVec 1 := Scalar.cmpi .eq arg0 c0_i32_28
  let v93 : BitVec 32 := Scalar.extui v92
  let c0_i32_29 : BitVec 32 := 0#32
  let v94 : BitVec 1 := Scalar.cmpi .ne v93 c0_i32_29
  v94

def k0_cond2 (i : grid0.Coords) : BitVec 1 :=
  let arg0 : BitVec 32 := BitVec.ofNat 32 (i 0).val
  let c0_i32_30 : BitVec 32 := 0#32
  let v95 : BitVec 1 := Scalar.cmpi .sgt arg0 c0_i32_30
  let v96 : BitVec 32 := Scalar.extui v95
  let c0_i32_31 : BitVec 32 := 0#32
  let v97 : BitVec 1 := Scalar.cmpi .ne v96 c0_i32_31
  v97

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_15 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8192x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S256x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S8192x256 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S1x1x256 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S1x1x256 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S8192x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4x1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S8192x256 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x1x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x1x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![4], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S4x128x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x384 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S8192x256 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .vmem S4x1x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S4x1x256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x256 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x256 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 2 → Memref sig .tc .vmem S4x256x2048 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]
-- ==== ReferenceIdeal.lean ====
abbrev S16x128x2048 : Shape := ⟨3, ![16, 128, 2048]⟩
abbrev S2x524288 : Shape := ⟨2, ![2, 524288]⟩
abbrev S_ : Shape := ⟨0, ![]⟩
abbrev S128 : Shape := ⟨1, ![128]⟩
abbrev S256x128x3 : Shape := ⟨3, ![256, 128, 3]⟩
abbrev S256 : Shape := ⟨1, ![256]⟩
abbrev S256x128 : Shape := ⟨2, ![256, 128]⟩
abbrev S256x256 : Shape := ⟨2, ![256, 256]⟩
abbrev S1x128x1 : Shape := ⟨3, ![1, 128, 1]⟩
abbrev S16x128x2050 : Shape := ⟨3, ![16, 128, 2050]⟩
abbrev S256x128x1 : Shape := ⟨3, ![256, 128, 1]⟩
abbrev S16x2048x256 : Shape := ⟨3, ![16, 2048, 256]⟩
abbrev S16x256x2048 : Shape := ⟨3, ![16, 256, 2048]⟩
abbrev S1x256x1 : Shape := ⟨3, ![1, 256, 1]⟩
abbrev S32768x128 : Shape := ⟨2, ![32768, 128]⟩
abbrev S128x256 : Shape := ⟨2, ![128, 256]⟩
abbrev S32768x256 : Shape := ⟨2, ![32768, 256]⟩
abbrev S1x256 : Shape := ⟨2, ![1, 256]⟩

abbrev nBuf : Space → Nat
  | .hbm => 250
  | .vmem => 0
  | .smem => 0
  | _ => 0

abbrev hbmTy0_0 (i : Nat) : BufTy := match i % 128 with
  | 0 => ⟨S16x128x2048, .f32⟩
  | 1 => ⟨S2x524288, .i32⟩
  | 2 => ⟨S_, .i32⟩
  | 3 => ⟨S128, .f32⟩
  | 4 => ⟨S128, .f32⟩
  | 5 => ⟨S256x128x3, .f32⟩
  | 6 => ⟨S256, .f32⟩
  | 7 => ⟨S256x128, .f32⟩
  | 8 => ⟨S256, .f32⟩
  | 9 => ⟨S256, .f32⟩
  | 10 => ⟨S256, .f32⟩
  | 11 => ⟨S256x256, .f32⟩
  | 12 => ⟨S256, .f32⟩
  | 13 => ⟨S256x256, .f32⟩
  | 14 => ⟨S256, .f32⟩
  | 15 => ⟨S_, .f32⟩
  | 16 => ⟨S128, .f32⟩
  | 17 => ⟨S1x128x1, .f32⟩
  | 18 => ⟨S_, .f32⟩
  | 19 => ⟨S1x128x1, .f32⟩
  | 20 => ⟨S1x128x1, .f32⟩
  | 21 => ⟨S_, .i32⟩
  | 22 => ⟨S_, .f32⟩
  | 23 => ⟨S128, .f32⟩
  | 24 => ⟨S1x128x1, .f32⟩
  | 25 => ⟨S_, .f32⟩
  | 26 => ⟨S1x128x1, .f32⟩
  | 27 => ⟨S1x128x1, .f32⟩
  | 28 => ⟨S16x128x2048, .f32⟩
  | 29 => ⟨S16x128x2048, .f32⟩
  | 30 => ⟨S16x128x2048, .f32⟩
  | 31 => ⟨S_, .f32⟩
  | 32 => ⟨S_, .f32⟩
  | 33 => ⟨S_, .f32⟩
  | 34 => ⟨S_, .f32⟩
  | 35 => ⟨S128, .f32⟩
  | 36 => ⟨S1x128x1, .f32⟩
  | 37 => ⟨S1x128x1, .f32⟩
  | 38 => ⟨S1x128x1, .f32⟩
  | 39 => ⟨S_, .f32⟩
  | 40 => ⟨S_, .i1⟩
  | 41 => ⟨S_, .f32⟩
  | 42 => ⟨S_, .f32⟩
  | 43 => ⟨S1x128x1, .f32⟩
  | 44 => ⟨S1x128x1, .f32⟩
  | 45 => ⟨S16x128x2048, .f32⟩
  | 46 => ⟨S16x128x2048, .f32⟩
  | 47 => ⟨S_, .f32⟩
  | 48 => ⟨S1x128x1, .f32⟩
  | 49 => ⟨S1x128x1, .f32⟩
  | 50 => ⟨S1x128x1, .f32⟩
  | 51 => ⟨S16x128x2048, .f32⟩
  | 52 => ⟨S16x128x2048, .f32⟩
  | 53 => ⟨S1x128x1, .f32⟩
  | 54 => ⟨S16x128x2048, .f32⟩
  | 55 => ⟨S16x128x2048, .f32⟩
  | 56 => ⟨S1x128x1, .f32⟩
  | 57 => ⟨S16x128x2048, .f32⟩
  | 58 => ⟨S16x128x2048, .f32⟩
  | 59 => ⟨S_, .i32⟩
  | 60 => ⟨S_, .f32⟩
  | 61 => ⟨S16x128x2050, .f32⟩
  | 62 => ⟨S256x128x1, .f32⟩
  | 63 => ⟨S256x128, .f32⟩
  | 64 => ⟨S16x128x2048, .f32⟩
  | 65 => ⟨S16x2048x256, .f32⟩
  | 66 => ⟨S16x256x2048, .f32⟩
  | 67 => ⟨S_, .f32⟩
  | 68 => ⟨S16x256x2048, .f32⟩
  | 69 => ⟨S16x256x2048, .f32⟩
  | 70 => ⟨S256x128x1, .f32⟩
  | 71 => ⟨S256x128, .f32⟩
  | 72 => ⟨S16x128x2048, .f32⟩
  | 73 => ⟨S16x2048x256, .f32⟩
  | 74 => ⟨S16x256x2048, .f32⟩
  | 75 => ⟨S16x256x2048, .f32⟩
  | 76 => ⟨S256x128x1, .f32⟩
  | 77 => ⟨S256x128, .f32⟩
  | 78 => ⟨S16x128x2048, .f32⟩
  | 79 => ⟨S16x2048x256, .f32⟩
  | 80 => ⟨S16x256x2048, .f32⟩
  | 81 => ⟨S16x256x2048, .f32⟩
  | 82 => ⟨S1x256x1, .f32⟩
  | 83 => ⟨S16x256x2048, .f32⟩
  | 84 => ⟨S16x256x2048, .f32⟩
  | 85 => ⟨S_, .f32⟩
  | 86 => ⟨S16x256x2048, .f32⟩
  | 87 => ⟨S16x256x2048, .f32⟩
  | 88 => ⟨S32768x128, .f32⟩
  | 89 => ⟨S128x256, .f32⟩
  | 90 => ⟨S32768x256, .f32⟩
  | 91 => ⟨S1x256, .f32⟩
  | 92 => ⟨S32768x256, .f32⟩
  | 93 => ⟨S32768x256, .f32⟩
  | 94 => ⟨S_, .f32⟩
  | 95 => ⟨S256, .f32⟩
  | 96 => ⟨S1x256, .f32⟩
  | 97 => ⟨S_, .f32⟩
  | 98 => ⟨S1x256, .f32⟩
  | 99 => ⟨S1x256, .f32⟩
  | 100 => ⟨S_, .i32⟩
  | 101 => ⟨S_, .f32⟩
  | 102 => ⟨S256, .f32⟩
  | 103 => ⟨S1x256, .f32⟩
  | 104 => ⟨S_, .f32⟩
  | 105 => ⟨S1x256, .f32⟩
  | 106 => ⟨S1x256, .f32⟩
  | 107 => ⟨S32768x256, .f32⟩
  | 108 => ⟨S32768x256, .f32⟩
  | 109 => ⟨S32768x256, .f32⟩
  | 110 => ⟨S_, .f32⟩
  | 111 => ⟨S_, .f32⟩
  | 112 => ⟨S_, .f32⟩
  | 113 => ⟨S_, .f32⟩
  | 114 => ⟨S256, .f32⟩
  | 115 => ⟨S1x256, .f32⟩
  | 116 => ⟨S1x256, .f32⟩
  | 117 => ⟨S1x256, .f32⟩
  | 118 => ⟨S_, .f32⟩
  | 119 => ⟨S_, .i1⟩
  | 120 => ⟨S_, .f32⟩
  | 121 => ⟨S_, .f32⟩
  | 122 => ⟨S1x256, .f32⟩
  | 123 => ⟨S1x256, .f32⟩
  | 124 => ⟨S32768x256, .f32⟩
  | 125 => ⟨S32768x256, .f32⟩
  | 126 => ⟨S_, .f32⟩
  | 127 => ⟨S1x256, .f32⟩
  | _ => ⟨S16x128x2048, .f32⟩

abbrev hbmTy0_1 (i : Nat) : BufTy := match i % 128 with
  | 0 => ⟨S1x256, .f32⟩
  | 1 => ⟨S1x256, .f32⟩
  | 2 => ⟨S32768x256, .f32⟩
  | 3 => ⟨S32768x256, .f32⟩
  | 4 => ⟨S1x256, .f32⟩
  | 5 => ⟨S32768x256, .f32⟩
  | 6 => ⟨S32768x256, .f32⟩
  | 7 => ⟨S1x256, .f32⟩
  | 8 => ⟨S32768x256, .f32⟩
  | 9 => ⟨S32768x256, .f32⟩
  | 10 => ⟨S_, .f32⟩
  | 11 => ⟨S32768x256, .f32⟩
  | 12 => ⟨S32768x256, .f32⟩
  | 13 => ⟨S256x256, .f32⟩
  | 14 => ⟨S32768x256, .f32⟩
  | 15 => ⟨S1x256, .f32⟩
  | 16 => ⟨S32768x256, .f32⟩
  | 17 => ⟨S32768x256, .f32⟩
  | 18 => ⟨S_, .f32⟩
  | 19 => ⟨S256, .f32⟩
  | 20 => ⟨S1x256, .f32⟩
  | 21 => ⟨S_, .f32⟩
  | 22 => ⟨S1x256, .f32⟩
  | 23 => ⟨S1x256, .f32⟩
  | 24 => ⟨S_, .i32⟩
  | 25 => ⟨S_, .f32⟩
  | 26 => ⟨S256, .f32⟩
  | 27 => ⟨S1x256, .f32⟩
  | 28 => ⟨S_, .f32⟩
  | 29 => ⟨S1x256, .f32⟩
  | 30 => ⟨S1x256, .f32⟩
  | 31 => ⟨S32768x256, .f32⟩
  | 32 => ⟨S32768x256, .f32⟩
  | 33 => ⟨S32768x256, .f32⟩
  | 34 => ⟨S_, .f32⟩
  | 35 => ⟨S_, .f32⟩
  | 36 => ⟨S_, .f32⟩
  | 37 => ⟨S_, .f32⟩
  | 38 => ⟨S256, .f32⟩
  | 39 => ⟨S1x256, .f32⟩
  | 40 => ⟨S1x256, .f32⟩
  | 41 => ⟨S1x256, .f32⟩
  | 42 => ⟨S_, .f32⟩
  | 43 => ⟨S_, .i1⟩
  | 44 => ⟨S_, .f32⟩
  | 45 => ⟨S_, .f32⟩
  | 46 => ⟨S1x256, .f32⟩
  | 47 => ⟨S1x256, .f32⟩
  | 48 => ⟨S32768x256, .f32⟩
  | 49 => ⟨S32768x256, .f32⟩
  | 50 => ⟨S_, .f32⟩
  | 51 => ⟨S1x256, .f32⟩
  | 52 => ⟨S1x256, .f32⟩
  | 53 => ⟨S1x256, .f32⟩
  | 54 => ⟨S32768x256, .f32⟩
  | 55 => ⟨S32768x256, .f32⟩
  | 56 => ⟨S1x256, .f32⟩
  | 57 => ⟨S32768x256, .f32⟩
  | 58 => ⟨S32768x256, .f32⟩
  | 59 => ⟨S1x256, .f32⟩
  | 60 => ⟨S32768x256, .f32⟩
  | 61 => ⟨S32768x256, .f32⟩
  | 62 => ⟨S_, .f32⟩
  | 63 => ⟨S32768x256, .f32⟩
  | 64 => ⟨S32768x256, .f32⟩
  | 65 => ⟨S16x256x2048, .f32⟩
  | 66 => ⟨S16x2048x256, .f32⟩
  | 67 => ⟨S32768x256, .f32⟩
  | 68 => ⟨S256x256, .f32⟩
  | 69 => ⟨S32768x256, .f32⟩
  | 70 => ⟨S1x256, .f32⟩
  | 71 => ⟨S32768x256, .f32⟩
  | 72 => ⟨S32768x256, .f32⟩
  | 73 => ⟨S_, .f32⟩
  | 74 => ⟨S256, .f32⟩
  | 75 => ⟨S1x256, .f32⟩
  | 76 => ⟨S_, .f32⟩
  | 77 => ⟨S1x256, .f32⟩
  | 78 => ⟨S1x256, .f32⟩
  | 79 => ⟨S_, .i32⟩
  | 80 => ⟨S_, .f32⟩
  | 81 => ⟨S256, .f32⟩
  | 82 => ⟨S1x256, .f32⟩
  | 83 => ⟨S_, .f32⟩
  | 84 => ⟨S1x256, .f32⟩
  | 85 => ⟨S1x256, .f32⟩
  | 86 => ⟨S32768x256, .f32⟩
  | 87 => ⟨S32768x256, .f32⟩
  | 88 => ⟨S32768x256, .f32⟩
  | 89 => ⟨S_, .f32⟩
  | 90 => ⟨S_, .f32⟩
  | 91 => ⟨S_, .f32⟩
  | 92 => ⟨S_, .f32⟩
  | 93 => ⟨S256, .f32⟩
  | 94 => ⟨S1x256, .f32⟩
  | 95 => ⟨S1x256, .f32⟩
  | 96 => ⟨S1x256, .f32⟩
  | 97 => ⟨S_, .f32⟩
  | 98 => ⟨S_, .i1⟩
  | 99 => ⟨S_, .f32⟩
  | 100 => ⟨S_, .f32⟩
  | 101 => ⟨S1x256, .f32⟩
  | 102 => ⟨S1x256, .f32⟩
  | 103 => ⟨S32768x256, .f32⟩
  | 104 => ⟨S32768x256, .f32⟩
  | 105 => ⟨S_, .f32⟩
  | 106 => ⟨S1x256, .f32⟩
  | 107 => ⟨S1x256, .f32⟩
  | 108 => ⟨S1x256, .f32⟩
  | 109 => ⟨S32768x256, .f32⟩
  | 110 => ⟨S32768x256, .f32⟩
  | 111 => ⟨S1x256, .f32⟩
  | 112 => ⟨S32768x256, .f32⟩
  | 113 => ⟨S32768x256, .f32⟩
  | 114 => ⟨S1x256, .f32⟩
  | 115 => ⟨S32768x256, .f32⟩
  | 116 => ⟨S32768x256, .f32⟩
  | 117 => ⟨S_, .f32⟩
  | 118 => ⟨S32768x256, .f32⟩
  | 119 => ⟨S32768x256, .f32⟩
  | 120 => ⟨S16x256x2048, .f32⟩
  | 121 => ⟨S16x256x2048, .f32⟩
  | _ => ⟨S16x128x2048, .f32⟩

abbrev hbmTy (i : Nat) : BufTy := match i / 128 with
  | 0 => hbmTy0_0 i
  | 1 => hbmTy0_1 i
  | _ => ⟨S16x128x2048, .f32⟩

abbrev bufTy : (tb : Table) → Fin (tcTables nBuf tb) → BufTy
  | .hbm, ⟨i, _⟩ => hbmTy i
  | _, _ => ⟨S16x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_cst_2 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_cst_3 : Ref sig .tc := ⟨.hbm, 39, rfl⟩
abbrev main_call0_v13 : Ref sig .tc := ⟨.hbm, 40, rfl⟩
abbrev main_call0_cst_4 : Ref sig .tc := ⟨.hbm, 41, rfl⟩
abbrev main_call0_call0_v0 : Ref sig .tc := ⟨.hbm, 42, rfl⟩
abbrev main_call0_call0_v1 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_cst_1 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_c_2 : Ref sig .tc := ⟨.hbm, 59, rfl⟩
abbrev main_call1_v0 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_cst_3 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_call2_cst : Ref sig .tc := ⟨.hbm, 85, rfl⟩
abbrev main_call2_v0 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_cst_4 : Ref sig .tc := ⟨.hbm, 94, rfl⟩
abbrev main_v48 : Ref sig .tc := ⟨.hbm, 95, rfl⟩
abbrev main_v49 : Ref sig .tc := ⟨.hbm, 96, rfl⟩
abbrev main_cst_5 : Ref sig .tc := ⟨.hbm, 97, rfl⟩
abbrev main_v50 : Ref sig .tc := ⟨.hbm, 98, rfl⟩
abbrev main_v51 : Ref sig .tc := ⟨.hbm, 99, rfl⟩
abbrev main_c_6 : Ref sig .tc := ⟨.hbm, 100, rfl⟩
abbrev main_call3_cst : Ref sig .tc := ⟨.hbm, 101, rfl⟩
abbrev main_call3_v0 : Ref sig .tc := ⟨.hbm, 102, rfl⟩
abbrev main_call3_v1 : Ref sig .tc := ⟨.hbm, 103, rfl⟩
abbrev main_call3_cst_0 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_call3_v5 : Ref sig .tc := ⟨.hbm, 108, rfl⟩
abbrev main_call3_v6 : Ref sig .tc := ⟨.hbm, 109, rfl⟩
abbrev main_call3_v7 : Ref sig .tc := ⟨.hbm, 110, rfl⟩
abbrev main_call3_cst_1 : Ref sig .tc := ⟨.hbm, 111, rfl⟩
abbrev main_call3_v8 : Ref sig .tc := ⟨.hbm, 112, rfl⟩
abbrev main_call3_cst_2 : Ref sig .tc := ⟨.hbm, 113, rfl⟩
abbrev main_call3_v9 : Ref sig .tc := ⟨.hbm, 114, rfl⟩
abbrev main_call3_v10 : Ref sig .tc := ⟨.hbm, 115, rfl⟩
abbrev main_call3_v11 : Ref sig .tc := ⟨.hbm, 116, rfl⟩
abbrev main_call3_v12 : Ref sig .tc := ⟨.hbm, 117, rfl⟩
abbrev main_call3_cst_3 : Ref sig .tc := ⟨.hbm, 118, rfl⟩
abbrev main_call3_v13 : Ref sig .tc := ⟨.hbm, 119, rfl⟩
abbrev main_call3_cst_4 : Ref sig .tc := ⟨.hbm, 120, rfl⟩
abbrev main_call3_call0_v0 : Ref sig .tc := ⟨.hbm, 121, rfl⟩
abbrev main_call3_call0_v1 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_cst_7 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_call4_cst : Ref sig .tc := ⟨.hbm, 138, rfl⟩
abbrev main_call4_v0 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_cst_8 : Ref sig .tc := ⟨.hbm, 146, rfl⟩
abbrev main_v72 : Ref sig .tc := ⟨.hbm, 147, rfl⟩
abbrev main_v73 : Ref sig .tc := ⟨.hbm, 148, rfl⟩
abbrev main_cst_9 : Ref sig .tc := ⟨.hbm, 149, rfl⟩
abbrev main_v74 : Ref sig .tc := ⟨.hbm, 150, rfl⟩
abbrev main_v75 : Ref sig .tc := ⟨.hbm, 151, rfl⟩
abbrev main_c_10 : Ref sig .tc := ⟨.hbm, 152, rfl⟩
abbrev main_call5_cst : Ref sig .tc := ⟨.hbm, 153, rfl⟩
abbrev main_call5_v0 : Ref sig .tc := ⟨.hbm, 154, rfl⟩
abbrev main_call5_v1 : Ref sig .tc := ⟨.hbm, 155, rfl⟩
abbrev main_call5_cst_0 : Ref sig .tc := ⟨.hbm, 156, rfl⟩
abbrev main_call5_v2 : Ref sig .tc := ⟨.hbm, 157, rfl⟩
abbrev main_call5_v3 : Ref sig .tc := ⟨.hbm, 158, rfl⟩
abbrev main_call5_v4 : Ref sig .tc := ⟨.hbm, 159, rfl⟩
abbrev main_call5_v5 : Ref sig .tc := ⟨.hbm, 160, rfl⟩
abbrev main_call5_v6 : Ref sig .tc := ⟨.hbm, 161, rfl⟩
abbrev main_call5_v7 : Ref sig .tc := ⟨.hbm, 162, rfl⟩
abbrev main_call5_cst_1 : Ref sig .tc := ⟨.hbm, 163, rfl⟩
abbrev main_call5_v8 : Ref sig .tc := ⟨.hbm, 164, rfl⟩
abbrev main_call5_cst_2 : Ref sig .tc := ⟨.hbm, 165, rfl⟩
abbrev main_call5_v9 : Ref sig .tc := ⟨.hbm, 166, rfl⟩
abbrev main_call5_v10 : Ref sig .tc := ⟨.hbm, 167, rfl⟩
abbrev main_call5_v11 : Ref sig .tc := ⟨.hbm, 168, rfl⟩
abbrev main_call5_v12 : Ref sig .tc := ⟨.hbm, 169, rfl⟩
abbrev main_call5_cst_3 : Ref sig .tc := ⟨.hbm, 170, rfl⟩
abbrev main_call5_v13 : Ref sig .tc := ⟨.hbm, 171, rfl⟩
abbrev main_call5_cst_4 : Ref sig .tc := ⟨.hbm, 172, rfl⟩
abbrev main_call5_call0_v0 : Ref sig .tc := ⟨.hbm, 173, rfl⟩
abbrev main_call5_call0_v1 : Ref sig .tc := ⟨.hbm, 174, rfl⟩
abbrev main_v76 : Ref sig .tc := ⟨.hbm, 175, rfl⟩
abbrev main_v77 : Ref sig .tc := ⟨.hbm, 176, rfl⟩
abbrev main_v78 : Ref sig .tc := ⟨.hbm, 177, rfl⟩
abbrev main_cst_11 : Ref sig .tc := ⟨.hbm, 178, rfl⟩
abbrev main_v79 : Ref sig .tc := ⟨.hbm, 179, rfl⟩
abbrev main_v80 : Ref sig .tc := ⟨.hbm, 180, rfl⟩
abbrev main_v81 : Ref sig .tc := ⟨.hbm, 181, rfl⟩
abbrev main_v82 : Ref sig .tc := ⟨.hbm, 182, rfl⟩
abbrev main_v83 : Ref sig .tc := ⟨.hbm, 183, rfl⟩
abbrev main_v84 : Ref sig .tc := ⟨.hbm, 184, rfl⟩
abbrev main_v85 : Ref sig .tc := ⟨.hbm, 185, rfl⟩
abbrev main_v86 : Ref sig .tc := ⟨.hbm, 186, rfl⟩
abbrev main_v87 : Ref sig .tc := ⟨.hbm, 187, rfl⟩
abbrev main_v88 : Ref sig .tc := ⟨.hbm, 188, rfl⟩
abbrev main_v89 : Ref sig .tc := ⟨.hbm, 189, rfl⟩
abbrev main_call6_cst : Ref sig .tc := ⟨.hbm, 190, rfl⟩
abbrev main_call6_v0 : Ref sig .tc := ⟨.hbm, 191, rfl⟩
abbrev main_v90 : Ref sig .tc := ⟨.hbm, 192, rfl⟩
abbrev main_v91 : Ref sig .tc := ⟨.hbm, 193, rfl⟩
abbrev main_v92 : Ref sig .tc := ⟨.hbm, 194, rfl⟩
abbrev main_v93 : Ref sig .tc := ⟨.hbm, 195, rfl⟩
abbrev main_v94 : Ref sig .tc := ⟨.hbm, 196, rfl⟩
abbrev main_v95 : Ref sig .tc := ⟨.hbm, 197, rfl⟩
abbrev main_v96 : Ref sig .tc := ⟨.hbm, 198, rfl⟩
abbrev main_v97 : Ref sig .tc := ⟨.hbm, 199, rfl⟩
abbrev main_v98 : Ref sig .tc := ⟨.hbm, 200, rfl⟩
abbrev main_cst_12 : Ref sig .tc := ⟨.hbm, 201, rfl⟩
abbrev main_v99 : Ref sig .tc := ⟨.hbm, 202, rfl⟩
abbrev main_v100 : Ref sig .tc := ⟨.hbm, 203, rfl⟩
abbrev main_cst_13 : Ref sig .tc := ⟨.hbm, 204, rfl⟩
abbrev main_v101 : Ref sig .tc := ⟨.hbm, 205, rfl⟩
abbrev main_v102 : Ref sig .tc := ⟨.hbm, 206, rfl⟩
abbrev main_c_14 : Ref sig .tc := ⟨.hbm, 207, rfl⟩
abbrev main_call7_cst : Ref sig .tc := ⟨.hbm, 208, rfl⟩
abbrev main_call7_v0 : Ref sig .tc := ⟨.hbm, 209, rfl⟩
abbrev main_call7_v1 : Ref sig .tc := ⟨.hbm, 210, rfl⟩
abbrev main_call7_cst_0 : Ref sig .tc := ⟨.hbm, 211, rfl⟩
abbrev main_call7_v2 : Ref sig .tc := ⟨.hbm, 212, rfl⟩
abbrev main_call7_v3 : Ref sig .tc := ⟨.hbm, 213, rfl⟩
abbrev main_call7_v4 : Ref sig .tc := ⟨.hbm, 214, rfl⟩
abbrev main_call7_v5 : Ref sig .tc := ⟨.hbm, 215, rfl⟩
abbrev main_call7_v6 : Ref sig .tc := ⟨.hbm, 216, rfl⟩
abbrev main_call7_v7 : Ref sig .tc := ⟨.hbm, 217, rfl⟩
abbrev main_call7_cst_1 : Ref sig .tc := ⟨.hbm, 218, rfl⟩
abbrev main_call7_v8 : Ref sig .tc := ⟨.hbm, 219, rfl⟩
abbrev main_call7_cst_2 : Ref sig .tc := ⟨.hbm, 220, rfl⟩
abbrev main_call7_v9 : Ref sig .tc := ⟨.hbm, 221, rfl⟩
abbrev main_call7_v10 : Ref sig .tc := ⟨.hbm, 222, rfl⟩
abbrev main_call7_v11 : Ref sig .tc := ⟨.hbm, 223, rfl⟩
abbrev main_call7_v12 : Ref sig .tc := ⟨.hbm, 224, rfl⟩
abbrev main_call7_cst_3 : Ref sig .tc := ⟨.hbm, 225, rfl⟩
abbrev main_call7_v13 : Ref sig .tc := ⟨.hbm, 226, rfl⟩
abbrev main_call7_cst_4 : Ref sig .tc := ⟨.hbm, 227, rfl⟩
abbrev main_call7_call0_v0 : Ref sig .tc := ⟨.hbm, 228, rfl⟩
abbrev main_call7_call0_v1 : Ref sig .tc := ⟨.hbm, 229, rfl⟩
abbrev main_v103 : Ref sig .tc := ⟨.hbm, 230, rfl⟩
abbrev main_v104 : Ref sig .tc := ⟨.hbm, 231, rfl⟩
abbrev main_v105 : Ref sig .tc := ⟨.hbm, 232, rfl⟩
abbrev main_cst_15 : Ref sig .tc := ⟨.hbm, 233, rfl⟩
abbrev main_v106 : Ref sig .tc := ⟨.hbm, 234, rfl⟩
abbrev main_v107 : Ref sig .tc := ⟨.hbm, 235, rfl⟩
abbrev main_v108 : Ref sig .tc := ⟨.hbm, 236, rfl⟩
abbrev main_v109 : Ref sig .tc := ⟨.hbm, 237, rfl⟩
abbrev main_v110 : Ref sig .tc := ⟨.hbm, 238, rfl⟩
abbrev main_v111 : Ref sig .tc := ⟨.hbm, 239, rfl⟩
abbrev main_v112 : Ref sig .tc := ⟨.hbm, 240, rfl⟩
abbrev main_v113 : Ref sig .tc := ⟨.hbm, 241, rfl⟩
abbrev main_v114 : Ref sig .tc := ⟨.hbm, 242, rfl⟩
abbrev main_v115 : Ref sig .tc := ⟨.hbm, 243, rfl⟩
abbrev main_v116 : Ref sig .tc := ⟨.hbm, 244, rfl⟩
abbrev main_call8_cst : Ref sig .tc := ⟨.hbm, 245, rfl⟩
abbrev main_call8_v0 : Ref sig .tc := ⟨.hbm, 246, rfl⟩
abbrev main_v117 : Ref sig .tc := ⟨.hbm, 247, rfl⟩
abbrev main_v118 : Ref sig .tc := ⟨.hbm, 248, rfl⟩
abbrev main_v119 : Ref sig .tc := ⟨.hbm, 249, rfl⟩

abbrev nD : Nat := 1
abbrev τ : Topo := Topo.v7x

variable {F : FTy → Type} [FloatOps F]
-- ==== Proof.Front.lean ====
/-
  The first region on one core: its blocks, what its body leaves in each output buffer (four of them carry sums from point to
  point), and the pipeline's obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Front

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

-- the buffers of every core when the region is entered
variable (V : (c : Dev nD) → (b : Ref sig .tc) → Buf (Elt F) ((c : Thread nD τ).loc b))

/-- The block of window `w` at point `t`, cut from its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body leaves in its output buffers -/

abbrev rX : Rect S4x128x2048 := Rect.unit (s := S4x128x2048) ![0, 0, 0] S4x128x2048.size inb_S4x128x2048_S4x128x2048_0_0_0
abbrev rW : Rect S256x128 := Rect.unit (s := S256x128) ![0, 0] S256x128.size inb_S256x128_S256x128_0_0
abbrev rC : Rect S128x1 := Rect.unit (s := S128x1) ![0, 0] S128x1.size inb_S128x1_S128x1_0_0
abbrev rU : Rect S128x256 := Rect.unit (s := S128x256) ![0, 0] S128x256.size inb_S128x256_S128x256_0_0
abbrev rY0 : Rect S8192x256 := Rect.unit (s := S8192x256) ![0, 0] S2048x256.size inb_S8192x256_S2048x256_0_0
abbrev rY1 : Rect S8192x256 := Rect.unit (s := S8192x256) ![2048, 0] S2048x256.size inb_S8192x256_S2048x256_2048_0
abbrev rY2 : Rect S8192x256 := Rect.unit (s := S8192x256) ![4096, 0] S2048x256.size inb_S8192x256_S2048x256_4096_0
abbrev rY3 : Rect S8192x256 := Rect.unit (s := S8192x256) ![6144, 0] S2048x256.size inb_S8192x256_S2048x256_6144_0

/-- The first weights. -/
def wts (x1 : Vec F S256x128 .f32) : FVec F S256x128 .bf16 :=
  k0_pay10 (View.ld x1 rW)

/-- The rows of the block's first batch element. -/
def chunk0 (x0 : Vec F S4x128x2048 .f32) : FVec F S2048x128 .f32 :=
  k0_pay14 (View.ld x0 rX)

/-- The products of the block's last batch element. -/
def prod3 (x0 : Vec F S4x128x2048 .f32) (x1 : Vec F S256x128 .f32) : FVec F S2048x256 .f32 :=
  k0_pay23 (View.ld x0 rX) (wts x1)

/-- The channel sums of the products of the first three batch elements. -/
def sumU (x0 : Vec F S4x128x2048 .f32) (x1 : Vec F S256x128 .f32) : FVec F S128x256 .f32 :=
  k0_pay21 (View.ld x0 rX) (wts x1) k0_pay11 k0_pay12 (chunk0 x0)

/-- The channel sums of the squared products of the first three batch elements. -/
def sumUU (x0 : Vec F S4x128x2048 .f32) (x1 : Vec F S256x128 .f32) : FVec F S128x256 .f32 :=
  k0_pay22 (View.ld x0 rX) (wts x1) k0_pay11 k0_pay13 (chunk0 x0)

/-- The products of the block's rows, four batch elements, last first. -/
def outU (x0 : Vec F S4x128x2048 .f32) (x1 : Vec F S256x128 .f32) : Vec F S8192x256 .bf16 :=
  View.canon [⟨rY3, k0_pay1 (prod3 x0 x1)⟩,
    ⟨rY2, k0_pay20 (View.ld x0 rX) (wts x1)⟩,
    ⟨rY1, k0_pay18 (View.ld x0 rX) (wts x1)⟩,
    ⟨rY0, k0_pay16 (wts x1) (chunk0 x0)⟩]

/-- The channel sums, at the first point. -/
def firstS (x0 : Vec F S4x128x2048 .f32) : Vec F S128x1 .f32 :=
  View.canon [⟨rC, k0_pay8 (View.ld x0 rX)⟩]

/-- The channel sums of squares, at the first point. -/
def firstQ (x0 : Vec F S4x128x2048 .f32) : Vec F S128x1 .f32 :=
  View.canon [⟨rC, k0_pay9 (View.ld x0 rX)⟩]

/-- The channel sums of the products, at the first point. -/
def firstU (x0 : Vec F S4x128x2048 .f32) (x1 : Vec F S256x128 .f32) : Vec F S128x256 .f32 :=
  View.canon [⟨rU, k0_pay2 k0_pay11 (sumU x0 x1) (prod3 x0 x1)⟩]

/-- The channel sums of the squared products, at the first point. -/
def firstUU (x0 : Vec F S4x128x2048 .f32) (x1 : Vec F S256x128 .f32) : Vec F S128x256 .f32 :=
  View.canon [⟨rU, k0_pay3 k0_pay11 (sumUU x0 x1) (prod3 x0 x1)⟩]

/-- The channel sums at a later point, from those before it. -/
def nextS (x0 : Vec F S4x128x2048 .f32) (x3 : Vec F S128x1 .f32) : Vec F S128x1 .f32 :=
  View.canon [⟨rC, k0_pay4 (k0_pay8 (View.ld x0 rX)) (View.ld x3 rC)⟩]

/-- The channel sums of squares at a later point. -/
def nextQ (x0 : Vec F S4x128x2048 .f32) (x4 : Vec F S128x1 .f32) : Vec F S128x1 .f32 :=
  View.canon [⟨rC, k0_pay5 (k0_pay9 (View.ld x0 rX)) (View.ld x4 rC)⟩]

/-- The channel sums of the products at a later point. -/
def nextU (x0 : Vec F S4x128x2048 .f32) (x1 : Vec F S256x128 .f32) (x5 : Vec F S128x256 .f32) : Vec F S128x256 .f32 :=
  View.canon [⟨rU, k0_pay6 k0_pay11 (sumU x0 x1) (prod3 x0 x1) (View.ld x5 rU)⟩]

/-- The channel sums of the squared products at a later point. -/
def nextUU (x0 : Vec F S4x128x2048 .f32) (x1 : Vec F S256x128 .f32) (x6 : Vec F S128x256 .f32) : Vec F S128x256 .f32 :=
  View.canon [⟨rU, k0_pay7 k0_pay11 (sumUU x0 x1) (prod3 x0 x1) (View.ld x6 rU)⟩]

theorem coverY (p0 p1 p2 p3 : Vec F S2048x256 .bf16) (y : S8192x256.Idx) :
    ∃ pc ∈ ([⟨rY3, p0⟩, ⟨rY2, p1⟩, ⟨rY1, p2⟩, ⟨rY0, p3⟩] : List (View.Piece (Elt F) S8192x256 .bf16)), y ∈ pc.1.set :=
  View.cover_of_tiled [⟨rY3, p0⟩, ⟨rY2, p1⟩, ⟨rY1, p2⟩, ⟨rY0, p3⟩] S2048x256.size (by rfl) y

theorem coverC (p0 : Vec F S128x1 .f32) (y : S128x1.Idx) :
    ∃ pc ∈ ([⟨rC, p0⟩] : List (View.Piece (Elt F) S128x1 .f32)), y ∈ pc.1.set :=
  View.cover_of_tiled [⟨rC, p0⟩] S128x1.size (by rfl) y

theorem coverU (p0 : Vec F S128x256 .f32) (y : S128x256.Idx) :
    ∃ pc ∈ ([⟨rU, p0⟩] : List (View.Piece (Elt F) S128x256 .f32)), y ∈ pc.1.set :=
  View.cover_of_tiled [⟨rU, p0⟩] S128x256.size (by rfl) y

/-! ## The two branches: the sums start at the first point and are added to at the later ones -/

theorem starts : ∀ t : Fin cfg0.N, k0_cond1 (grid0.coords t) = 1#1 ↔ t.val % 4 = 0 := fun t => by
  have ht : t.val < 4 := Nat.lt_of_lt_of_eq t.isLt N_0
  have e0 : (grid0.coords t 0).val = t.val / 1 % 4 := Pipeline.Grid.coords_val t 0 (by decide) rfl
  simp only [k0_cond1, e0]; word_cmp
theorem adds : ∀ t : Fin cfg0.N, k0_cond2 (grid0.coords t) = 1#1 ↔ 1 ≤ t.val := by decide +kernel

set_option maxHeartbeats 1000000 in
/-- The body where the sums start, every output buffer at anything. -/
theorem sound_first (c : Dev nD) (E : Set ℕ) (i : grid0.Coords) (arg1 : Memref sig .tc .vmem S4x128x2048 .f32) (harg1 : arg1.IsWhole) (arg2 : Memref sig .tc .vmem S256x128 .f32) (harg2 : arg2.IsWhole) (arg3 : Memref sig .tc .vmem S8192x256 .bf16) (harg3 : arg3.IsWhole) (arg4 : Memref sig .tc .vmem S128x1 .f32) (harg4 : arg4.IsWhole) (arg5 : Memref sig .tc .vmem S128x1 .f32) (harg5 : arg5.IsWhole) (arg6 : Memref sig .tc .vmem S128x256 .f32) (harg6 : arg6.IsWhole) (arg7 : Memref sig .tc .vmem S128x256 .f32) (harg7 : arg7.IsWhole)
    (hc0 : k0_cond1 i = 1#1) (hc1 : ¬ k0_cond2 i = 1#1)
    (x0 : Vec F S4x128x2048 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (outU x0 x1) ∗ owns (c : Thread nD τ) arg4 fullShare (firstS x0) ∗ owns (c : Thread nD τ) arg5 fullShare (firstQ x0) ∗ owns (c : Thread nD τ) arg6 fullShare (firstU x0 x1) ∗ owns (c : Thread nD τ) arg7 fullShare (firstUU x0 x1)) -∗ K ⟨⟩))
      ⊢ wp frame (wpE (defs₀ (F := F)) Variants.none c none) E (cc0__front_kernel i arg1 harg1 arg2 harg2 arg3 harg3 arg4 harg4 arg5 harg5 arg6 harg6 arg7 harg7) K := by
  simp only [cc0__front_kernel_eq_skeleton]; unfold cc0__front_kernel_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, Hk⟩
  subst hf0 hf1
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact (View.read_writes_eq_canon _ _ _ (coverY _ _ _ _)).trans rfl
  isplitl [H3]
  · iexists _; isplitr
    swap; · iexact H3
    ipureintro
    exact (View.read_writes_eq_canon _ _ _ (coverC _)).trans rfl
  isplitl [H4]
  · iexists _; isplitr
    swap; · iexact H4
    ipureintro
    exact (View.read_writes_eq_canon _ _ _ (coverC _)).trans rfl
  isplitl [H5]
  · iexists _; isplitr
    swap; · iexact H5
    ipureintro
    exact (View.read_writes_eq_canon _ _ _ (coverU _)).trans rfl
  iexists _; isplitr
  swap; · iexact H6
  ipureintro
  exact (View.read_writes_eq_canon _ _ _ (coverU _)).trans rfl

set_option maxHeartbeats 1000000 in
/-- The body where the sums are added to, their buffers at `x3` … `x6`. -/
theorem sound_next (c : Dev nD) (E : Set ℕ) (i : grid0.Coords) (arg1 : Memref sig .tc .vmem S4x128x2048 .f32) (harg1 : arg1.IsWhole) (arg2 : Memref sig .tc .vmem S256x128 .f32) (harg2 : arg2.IsWhole) (arg3 : Memref sig .tc .vmem S8192x256 .bf16) (harg3 : arg3.IsWhole) (arg4 : Memref sig .tc .vmem S128x1 .f32) (harg4 : arg4.IsWhole) (arg5 : Memref sig .tc .vmem S128x1 .f32) (harg5 : arg5.IsWhole) (arg6 : Memref sig .tc .vmem S128x256 .f32) (harg6 : arg6.IsWhole) (arg7 : Memref sig .tc .vmem S128x256 .f32) (harg7 : arg7.IsWhole)
    (hc0 : ¬ k0_cond1 i = 1#1) (hc1 : k0_cond2 i = 1#1)
    (x0 : Vec F S4x128x2048 .f32) (x1 : Vec F S256x128 .f32) (x3 : Vec F S128x1 .f32) (x4 : Vec F S128x1 .f32) (x5 : Vec F S128x256 .f32) (x6 : Vec F S128x256 .f32) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare x3 ∗ owns (c : Thread nD τ) arg5 fullShare x4 ∗ owns (c : Thread nD τ) arg6 fullShare x5 ∗ owns (c : Thread nD τ) arg7 fullShare x6
        ∗ (iprop(owns (c : Thread nD τ) arg1 fullShare x0 ∗ owns (c : Thread nD τ) arg2 fullShare x1 ∗ owns (c : Thread nD τ) arg3 fullShare (outU x0 x1) ∗ owns (c : Thread nD τ) arg4 fullShare (nextS x0 x3) ∗ owns (c : Thread nD τ) arg5 fullShare (nextQ x0 x4) ∗ owns (c : Thread nD τ) arg6 fullShare (nextU x0 x1 x5) ∗ owns (c : Thread nD τ) arg7 fullShare (nextUU x0 x1 x6)) -∗ K ⟨⟩))
      ⊢ wp frame (wpE (defs₀ (F := F)) Variants.none c none) E (cc0__front_kernel i arg1 harg1 arg2 harg2 arg3 harg3 arg4 harg4 arg5 harg5 arg6 harg6 arg7 harg7) K := by
  simp only [cc0__front_kernel_eq_skeleton]; unfold cc0__front_kernel_skel
  simp only [k0_part1_eq_skeleton, k0_part2_eq_skeleton]
  unfold owns
  iintro ⟨⟨%f0, %hf0, H0⟩, ⟨%f1, %hf1, H1⟩, ⟨%d2, %f2, -, H2⟩, ⟨%f3, %hf3, H3⟩, ⟨%f4, %hf4, H4⟩, ⟨%f5, %hf5, H5⟩, ⟨%f6, %hf6, H6⟩, Hk⟩
  subst hf0 hf1 hf3 hf4 hf5 hf6
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact (View.read_writes_eq_canon _ _ _ (coverY _ _ _ _)).trans rfl
  isplitl [H3]
  · iexists _; isplitr
    swap; · iexact H3
    ipureintro
    exact (View.read_writes_eq_canon _ _ _ (coverC _)).trans rfl
  isplitl [H4]
  · iexists _; isplitr
    swap; · iexact H4
    ipureintro
    exact (View.read_writes_eq_canon _ _ _ (coverC _)).trans rfl
  isplitl [H5]
  · iexists _; isplitr
    swap; · iexact H5
    ipureintro
    exact (View.read_writes_eq_canon _ _ _ (coverU _)).trans rfl
  iexists _; isplitr
  swap; · iexact H6
  ipureintro
  exact (View.read_writes_eq_canon _ _ _ (coverU _)).trans rfl

/-- The four running sums after point `n`. -/
def sums (c : Dev nD) : (n : ℕ) → n < cfg0.N → Vec F S128x1 .f32 × Vec F S128x1 .f32 × Vec F S128x256 .f32 × Vec F S128x256 .f32
  | 0, h => (firstS (blk V c 0 ⟨0, h⟩), firstQ (blk V c 0 ⟨0, h⟩), firstU (blk V c 0 ⟨0, h⟩) (blk V c 1 ⟨0, h⟩),
      firstUU (blk V c 0 ⟨0, h⟩) (blk V c 1 ⟨0, h⟩))
  | n + 1, h =>
    let p := sums c n (Nat.lt_of_succ_lt h)
    (nextS (blk V c 0 ⟨n + 1, h⟩) p.1, nextQ (blk V c 0 ⟨n + 1, h⟩) p.2.1,
      nextU (blk V c 0 ⟨n + 1, h⟩) (blk V c 1 ⟨n + 1, h⟩) p.2.2.1, nextUU (blk V c 0 ⟨n + 1, h⟩) (blk V c 1 ⟨n + 1, h⟩) p.2.2.2)

theorem sums_zero (c : Dev nD) (h : 0 < cfg0.N) : sums V c 0 h = (firstS (blk V c 0 ⟨0, h⟩), firstQ (blk V c 0 ⟨0, h⟩),
    firstU (blk V c 0 ⟨0, h⟩) (blk V c 1 ⟨0, h⟩), firstUU (blk V c 0 ⟨0, h⟩) (blk V c 1 ⟨0, h⟩)) := rfl
theorem sums_succ (c : Dev nD) (n : ℕ) (h : n + 1 < cfg0.N) : sums V c (n + 1) h =
    (nextS (blk V c 0 ⟨n + 1, h⟩) (sums V c n (Nat.lt_of_succ_lt h)).1, nextQ (blk V c 0 ⟨n + 1, h⟩) (sums V c n (Nat.lt_of_succ_lt h)).2.1,
      nextU (blk V c 0 ⟨n + 1, h⟩) (blk V c 1 ⟨n + 1, h⟩) (sums V c n (Nat.lt_of_succ_lt h)).2.2.1,
      nextUU (blk V c 0 ⟨n + 1, h⟩) (blk V c 1 ⟨n + 1, h⟩) (sums V c n (Nat.lt_of_succ_lt h)).2.2.2) := rfl

/-- The proof data of the region on core `c`. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => outU (blk V c 0 t) (blk V c 1 t)
    | ⟨3, _⟩ => (sums V c t.val t.isLt).1
    | ⟨4, _⟩ => (sums V c t.val t.isLt).2.1
    | ⟨5, _⟩ => (sums V c t.val t.isLt).2.2.1
    | ⟨6, _⟩ => (sums V c t.val t.isLt).2.2.2
  Φ _ := Pipeline.ΦA spec0 c
  q _ := fullShare
  owed _ := 0

theorem after_2 (c : Dev nD) (t : Fin cfg0.N) : (dat V c).after 2 t = outU (blk V c 0 t) (blk V c 1 t) := by dsimp only [dat]
theorem after_3 (c : Dev nD) (t : Fin cfg0.N) : (dat V c).after 3 t = (sums V c t.val t.isLt).1 := by dsimp only [dat]
theorem after_4 (c : Dev nD) (t : Fin cfg0.N) : (dat V c).after 4 t = (sums V c t.val t.isLt).2.1 := by dsimp only [dat]
theorem after_5 (c : Dev nD) (t : Fin cfg0.N) : (dat V c).after 5 t = (sums V c t.val t.isLt).2.2.1 := by dsimp only [dat]
theorem after_6 (c : Dev nD) (t : Fin cfg0.N) : (dat V c).after 6 t = (sums V c t.val t.isLt).2.2.2 := by dsimp only [dat]

/-! The buffer of an input window holds the window's block at every point: the body leaves it in place. -/

theorem before_0 (c : Dev nD) (t : Fin cfg0.N) (d) : (dat V c).before 0 t d = blk V c 0 t :=
  ((dat V c).before_in_eq_fetched 0 rfl (fun _ => rfl) (fun _ _ _ => rfl) (fun _ => rfl) t d).trans rfl
theorem before_1 (c : Dev nD) (t : Fin cfg0.N) (d) : (dat V c).before 1 t d = blk V c 1 t :=
  ((dat V c).before_in_eq_fetched 1 rfl (fun _ => rfl) (fun _ _ _ => rfl) (fun _ => rfl) t d).trans rfl

/-- The body writes every window at every point. -/
theorem live : ∀ (w : Fin cfg0.W) (t : Fin cfg0.N), cfg0.idle w (cfg0.grid.coords t) = false := by decide +kernel

/-- The windows of the sums are written back after the last point only, so between points they keep what the body left. -/
theorem fresh_sums (w : Fin cfg0.W) (hw : 3 ≤ w.val) (t : Fin cfg0.N) : cfg0.fresh w t.val = decide (t.val % 4 = 0) := by
  have step : ∀ (w : Fin cfg0.W), 3 ≤ w.val → ∀ t : Fin cfg0.N,
      decide ((t.val + 1) % 4 = 0) = ((cfg0.win w).flush t || (cfg0.idle w (cfg0.grid.coords t) && decide (t.val % 4 = 0))) := by
    decide +kernel
  exact Cfg.fresh_tab cfg0 w (fun n => decide (n % 4 = 0)) rfl (step w hw) t.val (Nat.le_of_lt t.isLt)

theorem before_3 (c : Dev nD) (n : ℕ) (h : n + 1 < cfg0.N) (d) : (dat V c).before 3 ⟨n + 1, h⟩ d = (sums V c n (Nat.lt_of_succ_lt h)).1 := by
  have hf : cfg0.fresh 3 (n + 1) = false :=
    (fresh_sums 3 (by decide) ⟨n + 1, h⟩).trans (decide_eq_false (by have : n + 1 < 4 := h; show ¬ (n + 1) % 4 = 0; omega))
  rw [(dat V c).before_out_traj 3 rfl (fun _ _ => rfl)
    (fun t _ hi => absurd hi (by rw [live]; exact Bool.false_ne_true)) (n + 1) ⟨n + 1, h⟩ rfl d, if_neg (by rw [hf]; exact Bool.false_ne_true)]
  dsimp only [dat]; rfl
theorem before_4 (c : Dev nD) (n : ℕ) (h : n + 1 < cfg0.N) (d) : (dat V c).before 4 ⟨n + 1, h⟩ d = (sums V c n (Nat.lt_of_succ_lt h)).2.1 := by
  have hf : cfg0.fresh 4 (n + 1) = false :=
    (fresh_sums 4 (by decide) ⟨n + 1, h⟩).trans (decide_eq_false (by have : n + 1 < 4 := h; show ¬ (n + 1) % 4 = 0; omega))
  rw [(dat V c).before_out_traj 4 rfl (fun _ _ => rfl)
    (fun t _ hi => absurd hi (by rw [live]; exact Bool.false_ne_true)) (n + 1) ⟨n + 1, h⟩ rfl d, if_neg (by rw [hf]; exact Bool.false_ne_true)]
  dsimp only [dat]; rfl
theorem before_5 (c : Dev nD) (n : ℕ) (h : n + 1 < cfg0.N) (d) : (dat V c).before 5 ⟨n + 1, h⟩ d = (sums V c n (Nat.lt_of_succ_lt h)).2.2.1 := by
  have hf : cfg0.fresh 5 (n + 1) = false :=
    (fresh_sums 5 (by decide) ⟨n + 1, h⟩).trans (decide_eq_false (by have : n + 1 < 4 := h; show ¬ (n + 1) % 4 = 0; omega))
  rw [(dat V c).before_out_traj 5 rfl (fun _ _ => rfl)
    (fun t _ hi => absurd hi (by rw [live]; exact Bool.false_ne_true)) (n + 1) ⟨n + 1, h⟩ rfl d, if_neg (by rw [hf]; exact Bool.false_ne_true)]
  dsimp only [dat]; rfl
theorem before_6 (c : Dev nD) (n : ℕ) (h : n + 1 < cfg0.N) (d) : (dat V c).before 6 ⟨n + 1, h⟩ d = (sums V c n (Nat.lt_of_succ_lt h)).2.2.2 := by
  have hf : cfg0.fresh 6 (n + 1) = false :=
    (fresh_sums 6 (by decide) ⟨n + 1, h⟩).trans (decide_eq_false (by have : n + 1 < 4 := h; show ¬ (n + 1) % 4 = 0; omega))
  rw [(dat V c).before_out_traj 6 rfl (fun _ _ => rfl)
    (fun t _ hi => absurd hi (by rw [live]; exact Bool.false_ne_true)) (n + 1) ⟨n + 1, h⟩ rfl d, if_neg (by rw [hf]; exact Bool.false_ne_true)]
  dsimp only [dat]; rfl

/-- What the body is called with at point `t`, window by window. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- What the body returns at point `t`. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, after_2, after_3, after_4, after_5, after_6]
  rw [show (dat V c).Φ t.succ = (dat V c).Φ t.castSucc from rfl, show (dat V c).owesAt () t.succ = (dat V c).owesAt () t.castSucc from rfl,
    show (dat V c).after 0 t = blk V c 0 t from rfl, show (dat V c).after 1 t = blk V c 1 t from rfl]
  obtain ⟨n, hn⟩ := t
  cases n with
  | zero =>
    simp only [sums_zero]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_first c Set.univ (grid0.coords ⟨0, hn⟩) _ _ _ _ _ _ _ _ _ _ _ _ _ _ ((starts ⟨0, hn⟩).2 rfl) (fun h => absurd ((adds ⟨0, hn⟩).1 h) (by show ¬ 1 ≤ 0; omega)) (blk V c 0 ⟨0, hn⟩) (blk V c 1 ⟨0, hn⟩) _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  | succ n =>
    simp only [before_3, before_4, before_5, before_6, sums_succ]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_next c Set.univ (grid0.coords ⟨n + 1, hn⟩) _ _ _ _ _ _ _ _ _ _ _ _ _ _
      (fun h => absurd ((starts ⟨n + 1, hn⟩).1 h) (by have : n + 1 < 4 := hn; show ¬ (n + 1) % 4 = 0; omega)) ((adds ⟨n + 1, hn⟩).2 (by show 1 ≤ n + 1; omega))
      (blk V c 0 ⟨n + 1, hn⟩) (blk V c 1 ⟨n + 1, hn⟩) _ _ _ _ _)
    isplitl [H0]; · iexact H0
    isplitl [H1]; · iexact H1
    isplitl [H2]; · iexists _; iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body meets the pipeline's obligation at every point. -/
theorem obligation (c : Dev nD) : BodyObligation (dat (F := F) V c) (defs₀ (F := F)) Variants.none () Set.univ := fun t => by
  have e : defs₀ (F := F) .tc cfg0.body (cfg0.bodyArgs t (cfg0.slots t)) = bodyAt0 t := by
    unfold defs₀; rw [Defs.onTc_tc]
  rw [bigSep_W0, bigSep_W0, e]
  have ea : ∀ w, (dat V c).leavesExact w t = owns (c : Thread nD τ) ((cfg0.win w).stage (cfg0.slots t w)) fullShare ((dat V c).after w t) := fun w => by
    unfold Dat.leavesExact; rw [live w t]
  have ep : bodyPost V c t = iprop((dat V c).Φ t.succ ∗ (dat V c).owesAt () t.succ ∗ (dat V c).leavesExact 0 t ∗ (dat V c).leavesExact 1 t
      ∗ (dat V c).leavesExact 2 t ∗ (dat V c).leavesExact 3 t ∗ (dat V c).leavesExact 4 t ∗ (dat V c).leavesExact 5 t ∗ (dat V c).leavesExact 6 t) := by
    rw [ea 3, ea 4, ea 5, ea 6]; rfl
  exact triple_restated (sound_body V c t) rfl .rfl fun _ => by
    rw [ep]

end Cert.KernelIdeal.Front

end
-- ==== Proof.Mid1.lean ====
/-
  The second region on one core: its blocks, what its body leaves in each output buffer, and the pipeline's obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Mid1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

-- the buffers of every core when the region is entered
variable (V : (c : Dev nD) → (b : Ref sig .tc) → Buf (Elt F) ((c : Thread nD τ).loc b))

/-- The block of window `w` at point `t`, cut from its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body leaves in its output buffers -/

abbrev rC : Rect S128x1 := Rect.unit (s := S128x1) ![0, 0] S128x1.size inb_S128x1_S128x1_0_0
abbrev rG : Rect S1x128 := Rect.unit (s := S1x128) ![0, 0] S1x128.size inb_S1x128_S1x128_0_0
abbrev rW1 : Rect S256x128 := Rect.unit (s := S256x128) ![0, 0] S256x128.size inb_S256x128_S256x128_0_0
abbrev rV : Rect S1x256 := Rect.unit (s := S1x256) ![0, 0] S1x256.size inb_S1x256_S1x256_0_0
abbrev rU : Rect S128x256 := Rect.unit (s := S128x256) ![0, 0] S128x256.size inb_S128x256_S128x256_0_0
abbrev rY : Rect S8192x256 := Rect.unit (s := S8192x256) ![0, 0] S8192x256.size inb_S8192x256_S8192x256_0_0
abbrev rW : Rect S256x256 := Rect.unit (s := S256x256) ![0, 0] S256x256.size inb_S256x256_S256x256_0_0
abbrev rS : Rect S1x1x256 := Rect.unit (s := S1x1x256) ![0, 0, 0] S1x1x256.size inb_S1x1x256_S1x1x256_0_0_0

/-- The scale of the first normalisation, per channel. -/
def scale0 (x1 : Vec F S128x1 .f32) (x2 : Vec F S128x1 .f32) (x3 : Vec F S1x128 .f32) : FVec F S128x1 .f32 :=
  k1_pay6 (View.ld x1 rC) (View.ld x2 rC) (View.ld x3 rG)

/-- What the first normalisation and the first bias add to a row of products, per channel. -/
def shift1 (x1 : Vec F S128x1 .f32) (x2 : Vec F S128x1 .f32) (x3 : Vec F S1x128 .f32) (x4 : Vec F S1x128 .f32) (x7 : Vec F S256x128 .f32) (x8 : Vec F S1x256 .f32) : FVec F S128x256 .f32 :=
  k1_pay7 (View.ld x1 rC) (View.ld x2 rC) (View.ld x3 rG) (View.ld x4 rG) (View.ld x7 rW1) (View.ld x8 rV)

/-- The scaled sum of the products over all rows. -/
def linear1 (x1 : Vec F S128x1 .f32) (x2 : Vec F S128x1 .f32) (x3 : Vec F S1x128 .f32) (x5 : Vec F S128x256 .f32) : FVec F S1x256 .f32 :=
  k1_pay8 (View.ld x1 rC) (View.ld x2 rC) (View.ld x3 rG) (View.ld x5 rU)

/-- The shift of the second normalisation. -/
def shift2 (x1 : Vec F S128x1 .f32) (x2 : Vec F S128x1 .f32) (x3 : Vec F S1x128 .f32) (x4 : Vec F S1x128 .f32) (x5 : Vec F S128x256 .f32) (x6 : Vec F S128x256 .f32) (x7 : Vec F S256x128 .f32) (x8 : Vec F S1x256 .f32) (x9 : Vec F S1x256 .f32) (x10 : Vec F S1x256 .f32) : FVec F S1x256 .f32 :=
  k1_pay11 (scale0 x1 x2 x3) (shift1 x1 x2 x3 x4 x7 x8) (linear1 x1 x2 x3 x5) (View.ld x6 rU) (View.ld x5 rU) (View.ld x9 rV) (View.ld x10 rV)

/-- The scale of the second normalisation times that of the first, per channel. -/
def scale2a (x1 : Vec F S128x1 .f32) (x2 : Vec F S128x1 .f32) (x3 : Vec F S1x128 .f32) (x4 : Vec F S1x128 .f32) (x5 : Vec F S128x256 .f32) (x6 : Vec F S128x256 .f32) (x7 : Vec F S256x128 .f32) (x8 : Vec F S1x256 .f32) (x9 : Vec F S1x256 .f32) : FVec F S1x128x1x256 .f32 :=
  k1_pay12 (scale0 x1 x2 x3) (shift1 x1 x2 x3 x4 x7 x8) (linear1 x1 x2 x3 x5) (View.ld x6 rU) (View.ld x5 rU) (View.ld x9 rV)

/-- The scale of the second normalisation, spread over the channels. -/
def scale2 (x1 : Vec F S128x1 .f32) (x2 : Vec F S128x1 .f32) (x3 : Vec F S1x128 .f32) (x4 : Vec F S1x128 .f32) (x5 : Vec F S128x256 .f32) (x6 : Vec F S128x256 .f32) (x7 : Vec F S256x128 .f32) (x8 : Vec F S1x256 .f32) (x9 : Vec F S1x256 .f32) : FVec F S128x256 .f32 :=
  k1_pay13 (scale0 x1 x2 x3) (shift1 x1 x2 x3 x4 x7 x8) (linear1 x1 x2 x3 x5) (View.ld x6 rU) (View.ld x5 rU) (View.ld x9 rV)

/-- The rows of the second product. -/
def outY (x0 : Vec F S8192x256 .bf16) (x1 : Vec F S128x1 .f32) (x2 : Vec F S128x1 .f32) (x3 : Vec F S1x128 .f32) (x4 : Vec F S1x128 .f32) (x5 : Vec F S128x256 .f32) (x6 : Vec F S128x256 .f32) (x7 : Vec F S256x128 .f32) (x8 : Vec F S1x256 .f32) (x9 : Vec F S1x256 .f32) (x10 : Vec F S1x256 .f32) (x11 : Vec F S256x256 .f32) (x12 : Vec F S1x256 .f32) : Vec F S8192x256 .bf16 :=
  View.canon [⟨rY, k1_pay2 (shift1 x1 x2 x3 x4 x7 x8) (shift2 x1 x2 x3 x4 x5 x6 x7 x8 x9 x10) (scale2a x1 x2 x3 x4 x5 x6 x7 x8 x9) (scale2 x1 x2 x3 x4 x5 x6 x7 x8 x9) (View.ld x0 rY) (View.ld x11 rW) (View.ld x12 rV)⟩]

/-- Their column sums. -/
def outS (x0 : Vec F S8192x256 .bf16) (x1 : Vec F S128x1 .f32) (x2 : Vec F S128x1 .f32) (x3 : Vec F S1x128 .f32) (x4 : Vec F S1x128 .f32) (x5 : Vec F S128x256 .f32) (x6 : Vec F S128x256 .f32) (x7 : Vec F S256x128 .f32) (x8 : Vec F S1x256 .f32) (x9 : Vec F S1x256 .f32) (x10 : Vec F S1x256 .f32) (x11 : Vec F S256x256 .f32) (x12 : Vec F S1x256 .f32) : Vec F S1x1x256 .f32 :=
  View.canon [⟨rS, k1_pay3 (shift1 x1 x2 x3 x4 x7 x8) (shift2 x1 x2 x3 x4 x5 x6 x7 x8 x9 x10) (scale2a x1 x2 x3 x4 x5 x6 x7 x8 x9) (scale2 x1 x2 x3 x4 x5 x6 x7 x8 x9) (View.ld x0 rY) (View.ld x11 rW) (View.ld x12 rV)⟩]

/-- The column sums of their squares. -/
def outQ (x0 : Vec F S8192x256 .bf16) (x1 : Vec F S128x1 .f32) (x2 : Vec F S128x1 .f32) (x3 : Vec F S1x128 .f32) (x4 : Vec F S1x128 .f32) (x5 : Vec F S128x256 .f32) (x6 : Vec F S128x256 .f32) (x7 : Vec F S256x128 .f32) (x8 : Vec F S1x256 .f32) (x9 : Vec F S1x256 .f32) (x10 : Vec F S1x256 .f32) (x11 : Vec F S256x256 .f32) (x12 : Vec F S1x256 .f32) : Vec F S1x1x256 .f32 :=
  View.canon [⟨rS, k1_pay4 (shift1 x1 x2 x3 x4 x7 x8) (shift2 x1 x2 x3 x4 x5 x6 x7 x8 x9 x10) (scale2a x1 x2 x3 x4 x5 x6 x7 x8 x9) (scale2 x1 x2 x3 x4 x5 x6 x7 x8 x9) (View.ld x0 rY) (View.ld x11 rW) (View.ld x12 rV)⟩]

theorem coverY (p0 : Vec F S8192x256 .bf16) (y : S8192x256.Idx) :
    ∃ pc ∈ ([⟨rY, p0⟩] : List (View.Piece (Elt F) S8192x256 .bf16)), y ∈ pc.1.set :=
  View.cover_of_tiled [⟨rY, p0⟩] S8192x256.size (by rfl) y

theorem coverS (p0 : Vec F S1x1x256 .f32) (y : S1x1x256.Idx) :
    ∃ pc ∈ ([⟨rS, p0⟩] : List (View.Piece (Elt F) S1x1x256 .f32)), y ∈ pc.1.set :=
  View.cover_of_tiled [⟨rS, p0⟩] S1x1x256.size (by rfl) y

set_option maxHeartbeats 1000000 in
/-- The body on whole buffers, the inputs' at `xK` and the outputs' at anything, leaves the inputs' as they were and the
    outputs' at their values. -/
theorem sound (c : Dev nD) (E : Set ℕ) (i : grid1.Coords) (arg1 : Memref sig .tc .vmem S8192x256 .bf16) (harg1 : arg1.IsWhole) (arg2 : Memref sig .tc .vmem S128x1 .f32) (harg2 : arg2.IsWhole) (arg3 : Memref sig .tc .vmem S128x1 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S256x128 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S8192x256 .bf16) (harg14 : arg14.IsWhole) (arg15 : Memref sig .tc .vmem S1x1x256 .f32) (harg15 : arg15.IsWhole) (arg16 : Memref sig .tc .vmem S1x1x256 .f32) (harg16 : arg16.IsWhole)
    (x0 : Vec F S8192x256 .bf16) (x1 : Vec F S128x1 .f32) (x2 : Vec F S128x1 .f32) (x3 : Vec F S1x128 .f32) (x4 : Vec F S1x128 .f32) (x5 : Vec F S128x256 .f32) (x6 : Vec F S128x256 .f32) (x7 : Vec F S256x128 .f32) (x8 : Vec F S1x256 .f32) (x9 : Vec F S1x256 .f32) (x10 : Vec F S1x256 .f32) (x11 : Vec F S256x256 .f32) (x12 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (outY x0 x1 x2 x3 x4 x5 x6 x7 x8 x9 x10 x11 x12) ∗ owns (c : Thread nD τ) arg15 fullShare (outS x0 x1 x2 x3 x4 x5 x6 x7 x8 x9 x10 x11 x12) ∗ owns (c : Thread nD τ) arg16 fullShare (outQ x0 x1 x2 x3 x4 x5 x6 x7 x8 x9 x10 x11 x12)) -∗ K ⟨⟩))
      ⊢ wp frame (wpE (defs₀ (F := F)) Variants.none c none) E (cc1__mid1_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc1__mid1_kernel_eq_skeleton]; unfold cc1__mid1_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact (View.read_writes_eq_canon _ _ _ (coverY _)).trans rfl
  isplitl [H14]
  · iexists _; isplitr
    swap; · iexact H14
    ipureintro
    exact (View.read_writes_eq_canon _ _ _ (coverS _)).trans rfl
  iexists _; isplitr
  swap; · iexact H15
  ipureintro
  exact (View.read_writes_eq_canon _ _ _ (coverS _)).trans rfl

/-- The proof data of the region on core `c`. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => blk V c 10 t
    | ⟨11, _⟩ => blk V c 11 t
    | ⟨12, _⟩ => blk V c 12 t
    | ⟨13, _⟩ => outY (blk V c 0 t) (blk V c 1 t) (blk V c 2 t) (blk V c 3 t) (blk V c 4 t) (blk V c 5 t) (blk V c 6 t) (blk V c 7 t) (blk V c 8 t) (blk V c 9 t) (blk V c 10 t) (blk V c 11 t) (blk V c 12 t)
    | ⟨14, _⟩ => outS (blk V c 0 t) (blk V c 1 t) (blk V c 2 t) (blk V c 3 t) (blk V c 4 t) (blk V c 5 t) (blk V c 6 t) (blk V c 7 t) (blk V c 8 t) (blk V c 9 t) (blk V c 10 t) (blk V c 11 t) (blk V c 12 t)
    | ⟨15, _⟩ => outQ (blk V c 0 t) (blk V c 1 t) (blk V c 2 t) (blk V c 3 t) (blk V c 4 t) (blk V c 5 t) (blk V c 6 t) (blk V c 7 t) (blk V c 8 t) (blk V c 9 t) (blk V c 10 t) (blk V c 11 t) (blk V c 12 t)
    | ⟨_ + 16, h⟩ => absurd h (Nat.not_lt.2 (Nat.le_add_left _ _))
  Φ _ := Pipeline.ΦA spec1 c
  q _ := fullShare
  owed _ := 0

theorem after_13 (c : Dev nD) (t : Fin cfg1.N) : (dat V c).after 13 t = outY (blk V c 0 t) (blk V c 1 t) (blk V c 2 t) (blk V c 3 t) (blk V c 4 t) (blk V c 5 t) (blk V c 6 t) (blk V c 7 t) (blk V c 8 t) (blk V c 9 t) (blk V c 10 t) (blk V c 11 t) (blk V c 12 t) := by dsimp only [dat]
theorem after_14 (c : Dev nD) (t : Fin cfg1.N) : (dat V c).after 14 t = outS (blk V c 0 t) (blk V c 1 t) (blk V c 2 t) (blk V c 3 t) (blk V c 4 t) (blk V c 5 t) (blk V c 6 t) (blk V c 7 t) (blk V c 8 t) (blk V c 9 t) (blk V c 10 t) (blk V c 11 t) (blk V c 12 t) := by dsimp only [dat]
theorem after_15 (c : Dev nD) (t : Fin cfg1.N) : (dat V c).after 15 t = outQ (blk V c 0 t) (blk V c 1 t) (blk V c 2 t) (blk V c 3 t) (blk V c 4 t) (blk V c 5 t) (blk V c 6 t) (blk V c 7 t) (blk V c 8 t) (blk V c 9 t) (blk V c 10 t) (blk V c 11 t) (blk V c 12 t) := by dsimp only [dat]

/-! The buffer of an input window holds the window's block at every point: the body leaves it in place. -/

theorem before_0 (c : Dev nD) (t : Fin cfg1.N) (d) : (dat V c).before 0 t d = blk V c 0 t :=
  ((dat V c).before_in_eq_fetched 0 rfl (fun _ => rfl) (fun _ _ _ => rfl) (fun _ => rfl) t d).trans rfl
theorem before_1 (c : Dev nD) (t : Fin cfg1.N) (d) : (dat V c).before 1 t d = blk V c 1 t :=
  ((dat V c).before_in_eq_fetched 1 rfl (fun _ => rfl) (fun _ _ _ => rfl) (fun _ => rfl) t d).trans rfl
theorem before_2 (c : Dev nD) (t : Fin cfg1.N) (d) : (dat V c).before 2 t d = blk V c 2 t :=
  ((dat V c).before_in_eq_fetched 2 rfl (fun _ => rfl) (fun _ _ _ => rfl) (fun _ => rfl) t d).trans rfl
theorem before_3 (c : Dev nD) (t : Fin cfg1.N) (d) : (dat V c).before 3 t d = blk V c 3 t :=
  ((dat V c).before_in_eq_fetched 3 rfl (fun _ => rfl) (fun _ _ _ => rfl) (fun _ => rfl) t d).trans rfl
theorem before_4 (c : Dev nD) (t : Fin cfg1.N) (d) : (dat V c).before 4 t d = blk V c 4 t :=
  ((dat V c).before_in_eq_fetched 4 rfl (fun _ => rfl) (fun _ _ _ => rfl) (fun _ => rfl) t d).trans rfl
theorem before_5 (c : Dev nD) (t : Fin cfg1.N) (d) : (dat V c).before 5 t d = blk V c 5 t :=
  ((dat V c).before_in_eq_fetched 5 rfl (fun _ => rfl) (fun _ _ _ => rfl) (fun _ => rfl) t d).trans rfl
theorem before_6 (c : Dev nD) (t : Fin cfg1.N) (d) : (dat V c).before 6 t d = blk V c 6 t :=
  ((dat V c).before_in_eq_fetched 6 rfl (fun _ => rfl) (fun _ _ _ => rfl) (fun _ => rfl) t d).trans rfl
theorem before_7 (c : Dev nD) (t : Fin cfg1.N) (d) : (dat V c).before 7 t d = blk V c 7 t :=
  ((dat V c).before_in_eq_fetched 7 rfl (fun _ => rfl) (fun _ _ _ => rfl) (fun _ => rfl) t d).trans rfl
theorem before_8 (c : Dev nD) (t : Fin cfg1.N) (d) : (dat V c).before 8 t d = blk V c 8 t :=
  ((dat V c).before_in_eq_fetched 8 rfl (fun _ => rfl) (fun _ _ _ => rfl) (fun _ => rfl) t d).trans rfl
theorem before_9 (c : Dev nD) (t : Fin cfg1.N) (d) : (dat V c).before 9 t d = blk V c 9 t :=
  ((dat V c).before_in_eq_fetched 9 rfl (fun _ => rfl) (fun _ _ _ => rfl) (fun _ => rfl) t d).trans rfl
theorem before_10 (c : Dev nD) (t : Fin cfg1.N) (d) : (dat V c).before 10 t d = blk V c 10 t :=
  ((dat V c).before_in_eq_fetched 10 rfl (fun _ => rfl) (fun _ _ _ => rfl) (fun _ => rfl) t d).trans rfl
theorem before_11 (c : Dev nD) (t : Fin cfg1.N) (d) : (dat V c).before 11 t d = blk V c 11 t :=
  ((dat V c).before_in_eq_fetched 11 rfl (fun _ => rfl) (fun _ _ _ => rfl) (fun _ => rfl) t d).trans rfl
theorem before_12 (c : Dev nD) (t : Fin cfg1.N) (d) : (dat V c).before 12 t d = blk V c 12 t :=
  ((dat V c).before_in_eq_fetched 12 rfl (fun _ => rfl) (fun _ _ _ => rfl) (fun _ => rfl) t d).trans rfl

/-- What the body is called with at point `t`, window by window. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d))
    ∗ (∃ d, owns (c : Thread nD τ) (st1_12 t) fullShare ((dat V c).before 12 t d))
    ∗ (∃ d, owns (c : Thread nD τ) (st1_13 t) fullShare ((dat V c).before 13 t d))
    ∗ (∃ d, owns (c : Thread nD τ) (st1_14 t) fullShare ((dat V c).before 14 t d))
    ∗ (∃ d, owns (c : Thread nD τ) (st1_15 t) fullShare ((dat V c).before 15 t d)))

/-- What the body returns at point `t`. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t)
    ∗ owns (c : Thread nD τ) (st1_11 t) fullShare ((dat V c).after 11 t)
    ∗ owns (c : Thread nD τ) (st1_12 t) fullShare ((dat V c).after 12 t)
    ∗ owns (c : Thread nD τ) (st1_13 t) fullShare ((dat V c).after 13 t)
    ∗ owns (c : Thread nD τ) (st1_14 t) fullShare ((dat V c).after 14 t)
    ∗ owns (c : Thread nD τ) (st1_15 t) fullShare ((dat V c).after 15 t))

/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7, before_8, before_9, before_10, before_11, before_12]
  rw [show (dat V c).Φ t.succ = (dat V c).Φ t.castSucc from rfl, show (dat V c).owesAt () t.succ = (dat V c).owesAt () t.castSucc from rfl]
  dsimp only [dat]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound c Set.univ (grid1.coords t) _ _ _ _ _ _ _ _ _ _ _ _ _ _ _ _ _ _ _ _ _ _ _ _ _ _ _ _ _ _ _ _ (blk V c 0 t) (blk V c 1 t) (blk V c 2 t) (blk V c 3 t) (blk V c 4 t) (blk V c 5 t) (blk V c 6 t) (blk V c 7 t) (blk V c 8 t) (blk V c 9 t) (blk V c 10 t) (blk V c 11 t) (blk V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body meets the pipeline's obligation at every point. -/
theorem obligation (c : Dev nD) : BodyObligation (dat (F := F) V c) (defs₀ (F := F)) Variants.none () Set.univ := fun t => by
  have e : defs₀ (F := F) .tc cfg1.body (cfg1.bodyArgs t (cfg1.slots t)) = bodyAt1 t := by
    unfold defs₀; rw [Defs.onTc_tc]
  rw [bigSep_W1, bigSep_W1, e]
  exact triple_restated (sound_body V c t) rfl .rfl fun _ => .rfl

end Cert.KernelIdeal.Mid1

end
-- ==== Proof.Mid.lean ====
/-
  The third region on one core: its blocks, what its body leaves in each output buffer, and the pipeline's obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Mid

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

-- the buffers of every core when the region is entered
variable (V : (c : Dev nD) → (b : Ref sig .tc) → Buf (Elt F) ((c : Thread nD τ).loc b))

/-- The block of window `w` at point `t`, cut from its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## What the body leaves in its output buffers -/

abbrev rP : Rect S4x1x256 := Rect.unit (s := S4x1x256) ![0, 0, 0] S4x1x256.size inb_S4x1x256_S4x1x256_0_0_0
abbrev rV : Rect S1x256 := Rect.unit (s := S1x256) ![0, 0] S1x256.size inb_S1x256_S1x256_0_0
abbrev rY : Rect S8192x256 := Rect.unit (s := S8192x256) ![0, 0] S8192x256.size inb_S8192x256_S8192x256_0_0
abbrev rW : Rect S256x256 := Rect.unit (s := S256x256) ![0, 0] S256x256.size inb_S256x256_S256x256_0_0
abbrev rS : Rect S1x1x256 := Rect.unit (s := S1x1x256) ![0, 0, 0] S1x1x256.size inb_S1x1x256_S1x1x256_0_0_0

/-- The products of the normalised rows with the third weights. -/
def prod (x0 : Vec F S8192x256 .bf16) (x1 : Vec F S4x1x256 .f32) (x2 : Vec F S4x1x256 .f32) (x3 : Vec F S1x256 .f32) (x4 : Vec F S1x256 .f32) (x5 : Vec F S256x256 .f32) : FVec F S8192x256 .f32 :=
  k2_pay5 (View.ld x1 rP) (View.ld x2 rP) (View.ld x3 rV) (View.ld x4 rV) (View.ld x0 rY) (View.ld x5 rW)

/-- The rows of the third product. -/
def outY (x0 : Vec F S8192x256 .bf16) (x1 : Vec F S4x1x256 .f32) (x2 : Vec F S4x1x256 .f32) (x3 : Vec F S1x256 .f32) (x4 : Vec F S1x256 .f32) (x5 : Vec F S256x256 .f32) (x6 : Vec F S1x256 .f32) : Vec F S8192x256 .bf16 :=
  View.canon [⟨rY, k2_pay2 (prod x0 x1 x2 x3 x4 x5) (View.ld x6 rV)⟩]

/-- Their column sums. -/
def outS (x0 : Vec F S8192x256 .bf16) (x1 : Vec F S4x1x256 .f32) (x2 : Vec F S4x1x256 .f32) (x3 : Vec F S1x256 .f32) (x4 : Vec F S1x256 .f32) (x5 : Vec F S256x256 .f32) (x6 : Vec F S1x256 .f32) : Vec F S1x1x256 .f32 :=
  View.canon [⟨rS, k2_pay3 (prod x0 x1 x2 x3 x4 x5) (View.ld x6 rV)⟩]

/-- The column sums of their squares. -/
def outQ (x0 : Vec F S8192x256 .bf16) (x1 : Vec F S4x1x256 .f32) (x2 : Vec F S4x1x256 .f32) (x3 : Vec F S1x256 .f32) (x4 : Vec F S1x256 .f32) (x5 : Vec F S256x256 .f32) (x6 : Vec F S1x256 .f32) : Vec F S1x1x256 .f32 :=
  View.canon [⟨rS, k2_pay4 (prod x0 x1 x2 x3 x4 x5) (View.ld x6 rV)⟩]

theorem coverY (p0 : Vec F S8192x256 .bf16) (y : S8192x256.Idx) :
    ∃ pc ∈ ([⟨rY, p0⟩] : List (View.Piece (Elt F) S8192x256 .bf16)), y ∈ pc.1.set :=
  View.cover_of_tiled [⟨rY, p0⟩] S8192x256.size (by rfl) y

theorem coverS (p0 : Vec F S1x1x256 .f32) (y : S1x1x256.Idx) :
    ∃ pc ∈ ([⟨rS, p0⟩] : List (View.Piece (Elt F) S1x1x256 .f32)), y ∈ pc.1.set :=
  View.cover_of_tiled [⟨rS, p0⟩] S1x1x256.size (by rfl) y

set_option maxHeartbeats 1000000 in
/-- The body on whole buffers, the inputs' at `xK` and the outputs' at anything, leaves the inputs' as they were and the
    outputs' at their values. -/
theorem sound (c : Dev nD) (E : Set ℕ) (i : grid2.Coords) (arg1 : Memref sig .tc .vmem S8192x256 .bf16) (harg1 : arg1.IsWhole) (arg2 : Memref sig .tc .vmem S4x1x256 .f32) (harg2 : arg2.IsWhole) (arg3 : Memref sig .tc .vmem S4x1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S8192x256 .bf16) (harg8 : arg8.IsWhole) (arg9 : Memref sig .tc .vmem S1x1x256 .f32) (harg9 : arg9.IsWhole) (arg10 : Memref sig .tc .vmem S1x1x256 .f32) (harg10 : arg10.IsWhole)
    (x0 : Vec F S8192x256 .bf16) (x1 : Vec F S4x1x256 .f32) (x2 : Vec F S4x1x256 .f32) (x3 : Vec F S1x256 .f32) (x4 : Vec F S1x256 .f32) (x5 : Vec F S256x256 .f32) (x6 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outY x0 x1 x2 x3 x4 x5 x6) ∗ owns (c : Thread nD τ) arg9 fullShare (outS x0 x1 x2 x3 x4 x5 x6) ∗ owns (c : Thread nD τ) arg10 fullShare (outQ x0 x1 x2 x3 x4 x5 x6)) -∗ K ⟨⟩))
      ⊢ wp frame (wpE (defs₀ (F := F)) Variants.none c none) E (cc2__mid_kernel i arg1 harg1 arg2 harg2 arg3 harg3 arg4 harg4 arg5 harg5 arg6 harg6 arg7 harg7 arg8 harg8 arg9 harg9 arg10 harg10) K := by
  simp only [cc2__mid_kernel_eq_skeleton]; unfold cc2__mid_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact (View.read_writes_eq_canon _ _ _ (coverY _)).trans rfl
  isplitl [H8]
  · iexists _; isplitr
    swap; · iexact H8
    ipureintro
    exact (View.read_writes_eq_canon _ _ _ (coverS _)).trans rfl
  iexists _; isplitr
  swap; · iexact H9
  ipureintro
  exact (View.read_writes_eq_canon _ _ _ (coverS _)).trans rfl

/-- The proof data of the region on core `c`. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => outY (blk V c 0 t) (blk V c 1 t) (blk V c 2 t) (blk V c 3 t) (blk V c 4 t) (blk V c 5 t) (blk V c 6 t)
    | ⟨8, _⟩ => outS (blk V c 0 t) (blk V c 1 t) (blk V c 2 t) (blk V c 3 t) (blk V c 4 t) (blk V c 5 t) (blk V c 6 t)
    | ⟨9, _⟩ => outQ (blk V c 0 t) (blk V c 1 t) (blk V c 2 t) (blk V c 3 t) (blk V c 4 t) (blk V c 5 t) (blk V c 6 t)
  Φ _ := Pipeline.ΦA spec2 c
  q _ := fullShare
  owed _ := 0

theorem after_7 (c : Dev nD) (t : Fin cfg2.N) : (dat V c).after 7 t = outY (blk V c 0 t) (blk V c 1 t) (blk V c 2 t) (blk V c 3 t) (blk V c 4 t) (blk V c 5 t) (blk V c 6 t) := by dsimp only [dat]
theorem after_8 (c : Dev nD) (t : Fin cfg2.N) : (dat V c).after 8 t = outS (blk V c 0 t) (blk V c 1 t) (blk V c 2 t) (blk V c 3 t) (blk V c 4 t) (blk V c 5 t) (blk V c 6 t) := by dsimp only [dat]
theorem after_9 (c : Dev nD) (t : Fin cfg2.N) : (dat V c).after 9 t = outQ (blk V c 0 t) (blk V c 1 t) (blk V c 2 t) (blk V c 3 t) (blk V c 4 t) (blk V c 5 t) (blk V c 6 t) := by dsimp only [dat]

/-! The buffer of an input window holds the window's block at every point: the body leaves it in place. -/

theorem before_0 (c : Dev nD) (t : Fin cfg2.N) (d) : (dat V c).before 0 t d = blk V c 0 t :=
  ((dat V c).before_in_eq_fetched 0 rfl (fun _ => rfl) (fun _ _ _ => rfl) (fun _ => rfl) t d).trans rfl
theorem before_1 (c : Dev nD) (t : Fin cfg2.N) (d) : (dat V c).before 1 t d = blk V c 1 t :=
  ((dat V c).before_in_eq_fetched 1 rfl (fun _ => rfl) (fun _ _ _ => rfl) (fun _ => rfl) t d).trans rfl
theorem before_2 (c : Dev nD) (t : Fin cfg2.N) (d) : (dat V c).before 2 t d = blk V c 2 t :=
  ((dat V c).before_in_eq_fetched 2 rfl (fun _ => rfl) (fun _ _ _ => rfl) (fun _ => rfl) t d).trans rfl
theorem before_3 (c : Dev nD) (t : Fin cfg2.N) (d) : (dat V c).before 3 t d = blk V c 3 t :=
  ((dat V c).before_in_eq_fetched 3 rfl (fun _ => rfl) (fun _ _ _ => rfl) (fun _ => rfl) t d).trans rfl
theorem before_4 (c : Dev nD) (t : Fin cfg2.N) (d) : (dat V c).before 4 t d = blk V c 4 t :=
  ((dat V c).before_in_eq_fetched 4 rfl (fun _ => rfl) (fun _ _ _ => rfl) (fun _ => rfl) t d).trans rfl
theorem before_5 (c : Dev nD) (t : Fin cfg2.N) (d) : (dat V c).before 5 t d = blk V c 5 t :=
  ((dat V c).before_in_eq_fetched 5 rfl (fun _ => rfl) (fun _ _ _ => rfl) (fun _ => rfl) t d).trans rfl
theorem before_6 (c : Dev nD) (t : Fin cfg2.N) (d) : (dat V c).before 6 t d = blk V c 6 t :=
  ((dat V c).before_in_eq_fetched 6 rfl (fun _ => rfl) (fun _ _ _ => rfl) (fun _ => rfl) t d).trans rfl

/-- What the body is called with at point `t`, window by window. -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d))
    ∗ (∃ d, owns (c : Thread nD τ) (st2_9 t) fullShare ((dat V c).before 9 t d)))

/-- What the body returns at point `t`. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t)
    ∗ owns (c : Thread nD τ) (st2_8 t) fullShare ((dat V c).after 8 t)
    ∗ owns (c : Thread nD τ) (st2_9 t) fullShare ((dat V c).after 9 t))

/-- The body at any point. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6]
  rw [show (dat V c).Φ t.succ = (dat V c).Φ t.castSucc from rfl, show (dat V c).owesAt () t.succ = (dat V c).owesAt () t.castSucc from rfl]
  dsimp only [dat]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound c Set.univ (grid2.coords t) _ _ _ _ _ _ _ _ _ _ _ _ _ _ _ _ _ _ _ _ (blk V c 0 t) (blk V c 1 t) (blk V c 2 t) (blk V c 3 t) (blk V c 4 t) (blk V c 5 t) (blk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body meets the pipeline's obligation at every point. -/
theorem obligation (c : Dev nD) : BodyObligation (dat (F := F) V c) (defs₀ (F := F)) Variants.none () Set.univ := fun t => by
  have e : defs₀ (F := F) .tc cfg2.body (cfg2.bodyArgs t (cfg2.slots t)) = bodyAt2 t := by
    unfold defs₀; rw [Defs.onTc_tc]
  rw [bigSep_W2, bigSep_W2, e]
  exact triple_restated (sound_body V c t) rfl .rfl fun _ => .rfl

end Cert.KernelIdeal.Mid

end
-- ==== Proof.Tail.lean ====
/-
  The fourth region on one core: its blocks, what its body leaves in its output buffer, and the pipeline's obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Tail

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

-- the buffers of every core when the region is entered
variable (V : (c : Dev nD) → (b : Ref sig .tc) → Buf (Elt F) ((c : Thread nD τ).loc b))

/-- The block of window `w` at point `t`, cut from its array as the region finds it. -/
def blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## What the body leaves in its output buffers -/

abbrev rC : Rect S128x1 := Rect.unit (s := S128x1) ![0, 0] S128x1.size inb_S128x1_S128x1_0_0
abbrev rG : Rect S1x128 := Rect.unit (s := S1x128) ![0, 0] S1x128.size inb_S1x128_S1x128_0_0
abbrev rP : Rect S4x1x256 := Rect.unit (s := S4x1x256) ![0, 0, 0] S4x1x256.size inb_S4x1x256_S4x1x256_0_0_0
abbrev rV : Rect S1x256 := Rect.unit (s := S1x256) ![0, 0] S1x256.size inb_S1x256_S1x256_0_0
abbrev rK : Rect S256x384 := Rect.unit (s := S256x384) ![0, 0] S256x384.size inb_S256x384_S256x384_0_0
abbrev rX0 : Rect S4x128x2048 := Rect.unit (s := S4x128x2048) ![0, 0, 0] S1x128x2048.size inb_S4x128x2048_S1x128x2048_0_0_0
abbrev rY0 : Rect S8192x256 := Rect.unit (s := S8192x256) ![0, 0] S2048x256.size inb_S8192x256_S2048x256_0_0
abbrev rO0 : Rect S4x256x2048 := Rect.unit (s := S4x256x2048) ![0, 0, 0] S1x256x2048.size inb_S4x256x2048_S1x256x2048_0_0_0
abbrev rX1 : Rect S4x128x2048 := Rect.unit (s := S4x128x2048) ![1, 0, 0] S1x128x2048.size inb_S4x128x2048_S1x128x2048_1_0_0
abbrev rY1 : Rect S8192x256 := Rect.unit (s := S8192x256) ![2048, 0] S2048x256.size inb_S8192x256_S2048x256_2048_0
abbrev rO1 : Rect S4x256x2048 := Rect.unit (s := S4x256x2048) ![1, 0, 0] S1x256x2048.size inb_S4x256x2048_S1x256x2048_1_0_0
abbrev rX2 : Rect S4x128x2048 := Rect.unit (s := S4x128x2048) ![2, 0, 0] S1x128x2048.size inb_S4x128x2048_S1x128x2048_2_0_0
abbrev rY2 : Rect S8192x256 := Rect.unit (s := S8192x256) ![4096, 0] S2048x256.size inb_S8192x256_S2048x256_4096_0
abbrev rO2 : Rect S4x256x2048 := Rect.unit (s := S4x256x2048) ![2, 0, 0] S1x256x2048.size inb_S4x256x2048_S1x256x2048_2_0_0
abbrev rX3 : Rect S4x128x2048 := Rect.unit (s := S4x128x2048) ![3, 0, 0] S1x128x2048.size inb_S4x128x2048_S1x128x2048_3_0_0
abbrev rY3 : Rect S8192x256 := Rect.unit (s := S8192x256) ![6144, 0] S2048x256.size inb_S8192x256_S2048x256_6144_0
abbrev rO3 : Rect S4x256x2048 := Rect.unit (s := S4x256x2048) ![3, 0, 0] S1x256x2048.size inb_S4x256x2048_S1x256x2048_3_0_0

/-- The scale of the first normalisation, per channel. -/
def scale0 (x1 : Vec F S128x1 .f32) (x2 : Vec F S128x1 .f32) (x3 : Vec F S1x128 .f32) : FVec F S128x1 .f32 :=
  k3_pay3 (View.ld x1 rC) (View.ld x2 rC) (View.ld x3 rG)

/-- The shift of the first normalisation, per channel. -/
def shift0 (x1 : Vec F S128x1 .f32) (x2 : Vec F S128x1 .f32) (x3 : Vec F S1x128 .f32) (x4 : Vec F S1x128 .f32) : FVec F S128x1 .f32 :=
  k3_pay4 (View.ld x1 rC) (View.ld x2 rC) (View.ld x3 rG) (View.ld x4 rG)

/-- The mean of the third product's columns. -/
def mean3 (x8 : Vec F S4x1x256 .f32) : FVec F S1x256 .f32 :=
  k3_pay5 (View.ld x8 rP)

/-- The variance of the third product's columns. -/
def var3 (x8 : Vec F S4x1x256 .f32) (x9 : Vec F S4x1x256 .f32) : FVec F S1x256 .f32 :=
  k3_pay6 (View.ld x8 rP) (View.ld x9 rP)

/-- The scale of the last normalisation. -/
def scale3 (x8 : Vec F S4x1x256 .f32) (x9 : Vec F S4x1x256 .f32) (x10 : Vec F S1x256 .f32) : FVec F S1x256 .f32 :=
  k3_pay7 (var3 x8 x9) (View.ld x10 rV)

/-- The shift of the last normalisation. -/
def shift3 (x8 : Vec F S4x1x256 .f32) (x9 : Vec F S4x1x256 .f32) (x10 : Vec F S1x256 .f32) (x11 : Vec F S1x256 .f32) : FVec F S1x256 .f32 :=
  k3_pay8 (mean3 x8) (var3 x8 x9) (View.ld x10 rV) (View.ld x11 rV)

/-- The four batch elements of the result, last first. -/
def out (x0 : Vec F S4x128x2048 .f32) (x1 : Vec F S128x1 .f32) (x2 : Vec F S128x1 .f32) (x3 : Vec F S1x128 .f32) (x4 : Vec F S1x128 .f32) (x5 : Vec F S256x384 .bf16) (x6 : Vec F S1x256 .f32) (x7 : Vec F S8192x256 .bf16) (x8 : Vec F S4x1x256 .f32) (x9 : Vec F S4x1x256 .f32) (x10 : Vec F S1x256 .f32) (x11 : Vec F S1x256 .f32) : Vec F S4x256x2048 .f32 :=
  View.canon [⟨rO3, k3_pay1 (scale0 x1 x2 x3) (shift0 x1 x2 x3 x4) (scale3 x8 x9 x10) (shift3 x8 x9 x10 x11) (k3_pay13 (View.ld x0 rX3)) (View.ld x5 rK) (View.ld x6 rV) (View.ld x7 rY3)⟩,
    ⟨rO2, k3_pay12 (scale0 x1 x2 x3) (shift0 x1 x2 x3 x4) (scale3 x8 x9 x10) (shift3 x8 x9 x10 x11) (View.ld x0 rX2) (View.ld x5 rK) (View.ld x6 rV) (View.ld x7 rY2)⟩,
    ⟨rO1, k3_pay11 (scale0 x1 x2 x3) (shift0 x1 x2 x3 x4) (scale3 x8 x9 x10) (shift3 x8 x9 x10 x11) (View.ld x0 rX1) (View.ld x5 rK) (View.ld x6 rV) (View.ld x7 rY1)⟩,
    ⟨rO0, k3_pay10 (k3_pay9 (scale0 x1 x2 x3) (shift0 x1 x2 x3 x4) (mean3 x8) (var3 x8 x9) (View.ld x10 rV) (View.ld x11 rV) (View.ld x0 rX0) (View.ld x5 rK) (View.ld x6 rV) (View.ld x7 rY0))⟩]

theorem coverO (p0 p1 p2 p3 : Vec F S1x256x2048 .f32) (y : S4x256x2048.Idx) :
    ∃ pc ∈ ([⟨rO3, p0⟩, ⟨rO2, p1⟩, ⟨rO1, p2⟩, ⟨rO0, p3⟩] : List (View.Piece (Elt F) S4x256x2048 .f32)), y ∈ pc.1.set :=
  View.cover_of_tiled [⟨rO3, p0⟩, ⟨rO2, p1⟩, ⟨rO1, p2⟩, ⟨rO0, p3⟩] S1x256x2048.size (by rfl) y

set_option maxHeartbeats 1000000 in
/-- The body on whole buffers, the inputs' at `xK` and the outputs' at anything, leaves the inputs' as they were and the
    outputs' at their values. -/
theorem sound (c : Dev nD) (E : Set ℕ) (i : grid3.Coords) (arg1 : Memref sig .tc .vmem S4x128x2048 .f32) (harg1 : arg1.IsWhole) (arg2 : Memref sig .tc .vmem S128x1 .f32) (harg2 : arg2.IsWhole) (arg3 : Memref sig .tc .vmem S128x1 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x384 .bf16) (harg6 : arg6.IsWhole) (arg7 : Memref sig .tc .vmem S1x256 .f32) (harg7 : arg7.IsWhole) (arg8 : Memref sig .tc .vmem S8192x256 .bf16) (harg8 : arg8.IsWhole) (arg9 : Memref sig .tc .vmem S4x1x256 .f32) (harg9 : arg9.IsWhole) (arg10 : Memref sig .tc .vmem S4x1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S4x256x2048 .f32) (harg13 : arg13.IsWhole)
    (x0 : Vec F S4x128x2048 .f32) (x1 : Vec F S128x1 .f32) (x2 : Vec F S128x1 .f32) (x3 : Vec F S1x128 .f32) (x4 : Vec F S1x128 .f32) (x5 : Vec F S256x384 .bf16) (x6 : Vec F S1x256 .f32) (x7 : Vec F S8192x256 .bf16) (x8 : Vec F S4x1x256 .f32) (x9 : Vec F S4x1x256 .f32) (x10 : Vec F S1x256 .f32) (x11 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out x0 x1 x2 x3 x4 x5 x6 x7 x8 x9 x10 x11)) -∗ K ⟨⟩))
      ⊢ wp frame (wpE (defs₀ (F := F)) Variants.none c none) E (cc3__tail_kernel i arg1 harg1 arg2 harg2 arg3 harg3 arg4 harg4 arg5 harg5 arg6 harg6 arg7 harg7 arg8 harg8 arg9 harg9 arg10 harg10 arg11 harg11 arg12 harg12 arg13 harg13) K := by
  simp only [cc3__tail_kernel_eq_skeleton]; unfold cc3__tail_kernel_skel
  simp only [k3_part1_eq_skeleton, k3_part2_eq_skeleton, k3_part3_eq_skeleton, k3_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact (View.read_writes_eq_canon _ _ _ (coverO _ _ _ _)).trans rfl

/-- The proof data of the region on core `c`. -/
def dat (c : Dev nD) : Dat τ (Elt F) Unit ℕ (UR sig nD τ) ℕ cfg3 c where
  A w := V c (Pipeline.arrRef spec3 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => blk V c 10 t
    | ⟨11, _⟩ => blk V c 11 t
    | ⟨12, _⟩ => out (blk V c 0 t) (blk V c 1 t) (blk V c 2 t) (blk V c 3 t) (blk V c 4 t) (blk V c 5 t) (blk V c 6 t) (blk V c 7 t) (blk V c 8 t) (blk V c 9 t) (blk V c 10 t) (blk V c 11 t)
  Φ _ := Pipeline.ΦA spec3 c
  q _ := fullShare
  owed _ := 0

theorem after_12 (c : Dev nD) (t : Fin cfg3.N) : (dat V c).after 12 t = out (blk V c 0 t) (blk V c 1 t) (blk V c 2 t) (blk V c 3 t) (blk V c 4 t) (blk V c 5 t) (blk V c 6 t) (blk V c 7 t) (blk V c 8 t) (blk V c 9 t) (blk V c 10 t) (blk V c 11 t) := by dsimp only [dat]

/-! The buffer of an input window holds the window's block at every point: the body leaves it in place. -/

theorem before_0 (c : Dev nD) (t : Fin cfg3.N) (d) : (dat V c).before 0 t d = blk V c 0 t :=
  ((dat V c).before_in_eq_fetched 0 rfl (fun _ => rfl) (fun _ _ _ => rfl) (fun _ => rfl) t d).trans rfl
theorem before_1 (c : Dev nD) (t : Fin cfg3.N) (d) : (dat V c).before 1 t d = blk V c 1 t :=
  ((dat V c).before_in_eq_fetched 1 rfl (fun _ => rfl) (fun _ _ _ => rfl) (fun _ => rfl) t d).trans rfl
theorem before_2 (c : Dev nD) (t : Fin cfg3.N) (d) : (dat V c).before 2 t d = blk V c 2 t :=
  ((dat V c).before_in_eq_fetched 2 rfl (fun _ => rfl) (fun _ _ _ => rfl) (fun _ => rfl) t d).trans rfl
theorem before_3 (c : Dev nD) (t : Fin cfg3.N) (d) : (dat V c).before 3 t d = blk V c 3 t :=
  ((dat V c).before_in_eq_fetched 3 rfl (fun _ => rfl) (fun _ _ _ => rfl) (fun _ => rfl) t d).trans rfl
theorem before_4 (c : Dev nD) (t : Fin cfg3.N) (d) : (dat V c).before 4 t d = blk V c 4 t :=
  ((dat V c).before_in_eq_fetched 4 rfl (fun _ => rfl) (fun _ _ _ => rfl) (fun _ => rfl) t d).trans rfl
theorem before_5 (c : Dev nD) (t : Fin cfg3.N) (d) : (dat V c).before 5 t d = blk V c 5 t :=
  ((dat V c).before_in_eq_fetched 5 rfl (fun _ => rfl) (fun _ _ _ => rfl) (fun _ => rfl) t d).trans rfl
theorem before_6 (c : Dev nD) (t : Fin cfg3.N) (d) : (dat V c).before 6 t d = blk V c 6 t :=
  ((dat V c).before_in_eq_fetched 6 rfl (fun _ => rfl) (fun _ _ _ => rfl) (fun _ => rfl) t d).trans rfl
theorem before_7 (c : Dev nD) (t : Fin cfg3.N) (d) : (dat V c).before 7 t d = blk V c 7 t :=
  ((dat V c).before_in_eq_fetched 7 rfl (fun _ => rfl) (fun _ _ _ => rfl) (fun _ => rfl) t d).trans rfl
theorem before_8 (c : Dev nD) (t : Fin cfg3.N) (d) : (dat V c).before 8 t d = blk V c 8 t :=
  ((dat V c).before_in_eq_fetched 8 rfl (fun _ => rfl) (fun _ _ _ => rfl) (fun _ => rfl) t d).trans rfl
theorem before_9 (c : Dev nD) (t : Fin cfg3.N) (d) : (dat V c).before 9 t d = blk V c 9 t :=
  ((dat V c).before_in_eq_fetched 9 rfl (fun _ => rfl) (fun _ _ _ => rfl) (fun _ => rfl) t d).trans rfl
theorem before_10 (c : Dev nD) (t : Fin cfg3.N) (d) : (dat V c).before 10 t d = blk V c 10 t :=
  ((dat V c).before_in_eq_fetched 10 rfl (fun _ => rfl) (fun _ _ _ => rfl) (fun _ => rfl) t d).trans rfl
theorem before_11 (c : Dev nD) (t : Fin cfg3.N) (d) : (dat V c).before 11 t d = blk V c 11 t :=
  ((dat V c).before_in_eq_fetched 11 rfl (fun _ => rfl) (fun _ _ _ => rfl) (fun _ => rfl) t d).trans rfl

/-- What the body is called with at point `t`, window by window. -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d))
    ∗ (∃ d, owns (c : Thread nD τ) (st3_6 t) fullShare ((dat V c).before 6 t d))
    ∗ (∃ d, owns (c : Thread nD τ) (st3_7 t) fullShare ((dat V c).before 7 t d))
    ∗ (∃ d, owns (c : Thread nD τ) (st3_8 t) fullShare ((dat V c).before 8 t d))
    ∗ (∃ d, owns (c : Thread nD τ) (st3_9 t) fullShare ((dat V c).before 9 t d))
    ∗ (∃ d, owns (c : Thread nD τ) (st3_10 t) fullShare ((dat V c).before 10 t d))
    ∗ (∃ d, owns (c : Thread nD τ) (st3_11 t) fullShare ((dat V c).before 11 t d))
    ∗ (∃ d, owns (c : Thread nD τ) (st3_12 t) fullShare ((dat V c).before 12 t d)))

/-- What the body returns at point `t`. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t)
    ∗ owns (c : Thread nD τ) (st3_6 t) fullShare ((dat V c).after 6 t)
    ∗ owns (c : Thread nD τ) (st3_7 t) fullShare ((dat V c).after 7 t)
    ∗ owns (c : Thread nD τ) (st3_8 t) fullShare ((dat V c).after 8 t)
    ∗ owns (c : Thread nD τ) (st3_9 t) fullShare ((dat V c).after 9 t)
    ∗ owns (c : Thread nD τ) (st3_10 t) fullShare ((dat V c).after 10 t)
    ∗ owns (c : Thread nD τ) (st3_11 t) fullShare ((dat V c).after 11 t)
    ∗ owns (c : Thread nD τ) (st3_12 t) fullShare ((dat V c).after 12 t))

/-- The body at any point. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4, before_5, before_6, before_7, before_8, before_9, before_10, before_11]
  rw [show (dat V c).Φ t.succ = (dat V c).Φ t.castSucc from rfl, show (dat V c).owesAt () t.succ = (dat V c).owesAt () t.castSucc from rfl]
  dsimp only [dat]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound c Set.univ (grid3.coords t) _ _ _ _ _ _ _ _ _ _ _ _ _ _ _ _ _ _ _ _ _ _ _ _ _ _ (blk V c 0 t) (blk V c 1 t) (blk V c 2 t) (blk V c 3 t) (blk V c 4 t) (blk V c 5 t) (blk V c 6 t) (blk V c 7 t) (blk V c 8 t) (blk V c 9 t) (blk V c 10 t) (blk V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body meets the pipeline's obligation at every point. -/
theorem obligation (c : Dev nD) : BodyObligation (dat (F := F) V c) (defs₀ (F := F)) Variants.none () Set.univ := fun t => by
  have e : defs₀ (F := F) .tc cfg3.body (cfg3.bodyArgs t (cfg3.slots t)) = bodyAt3 t := by
    unfold defs₀; rw [Defs.onTc_tc]
  rw [bigSep_W3, bigSep_W3, e]
  exact triple_restated (sound_body V c t) rfl .rfl fun _ => .rfl

end Cert.KernelIdeal.Tail

end
-- ==== Proof.Run.lean ====
/-
  The run of the whole program: the buffers at each boundary between host operations and regions, the regions as segments, and
  what every final state holds.
-/
module

public import proofs.«01_k».proof.Proof.Front
public import proofs.«01_k».proof.Proof.Mid1
public import proofs.«01_k».proof.Proof.Mid
public import proofs.«01_k».proof.Proof.Tail

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev args : List (Ref sig .tc) := [main_arg0, main_arg1, main_arg2, main_arg3, main_arg4, main_arg5, main_arg6, main_arg7, main_arg8, main_arg9, main_arg10, main_arg11, main_arg12, main_arg13, main_arg14]

/-! ## What the host stretches write -/

theorem fresh0 : (hostOps0 : List (HloOp τ sig (Elt F))).Forall fun op => op.fresh = ∅ := by
  simp only [List.Forall]; repeat' constructor
/-- What `hostOps0` writes. -/
abbrev wrote0 : List (Ref sig .tc) := [main_v0, main_v1, main_v2, main_v3, main_v4, main_v5, main_v6, main_v7, main_v8, main_v9, main_v10, main_v11, main_v12]
theorem writes0 : (hostOps0 : List (HloOp τ sig (Elt F))).Forall fun op => op.writes ⊆ (wrote0.map (Proc.devRef (τ := τ) .tc)).toFinset :=
  StableHlo.forall_writes_sub_of_map rfl
theorem keeps0 : ∀ a ∈ args, a ∉ wrote0 := ListAll.forall_mem_of_all_decide (by decide +kernel)

theorem fresh1 : (hostOps1 : List (HloOp τ sig (Elt F))).Forall fun op => op.fresh = ∅ := by
  simp only [List.Forall]; repeat' constructor
/-- What `hostOps1` writes. -/
abbrev wrote1 : List (Ref sig .tc) := [main_v14, main_v15]
theorem writes1 : (hostOps1 : List (HloOp τ sig (Elt F))).Forall fun op => op.writes ⊆ (wrote1.map (Proc.devRef (τ := τ) .tc)).toFinset :=
  StableHlo.forall_writes_sub_of_map rfl
theorem keeps1 : ∀ a ∈ args, a ∉ wrote1 := ListAll.forall_mem_of_all_decide (by decide +kernel)

theorem fresh2 : (hostOps2 : List (HloOp τ sig (Elt F))).Forall fun op => op.fresh = ∅ := by
  simp only [List.Forall]; repeat' constructor
/-- What `hostOps2` writes. -/
abbrev wrote2 : List (Ref sig .tc) := [main_v17]
theorem writes2 : (hostOps2 : List (HloOp τ sig (Elt F))).Forall fun op => op.writes ⊆ (wrote2.map (Proc.devRef (τ := τ) .tc)).toFinset :=
  StableHlo.forall_writes_sub_of_map rfl
theorem keeps2 : ∀ a ∈ args, a ∉ wrote2 := ListAll.forall_mem_of_all_decide (by decide +kernel)

/-! ## The buffers at the boundaries -/

/-- The buffers a core's TensorCore reads, out of all the core's buffers. -/
abbrev tcOf (W : Dev nD → Valuation τ sig (Elt F)) : (c : Dev nD) → (b : Ref sig .tc) → Buf (Elt F) ((c : Thread nD τ).loc b) := fun c b => W c b

/-- At the launch. -/
abbrev W0 : Dev nD → Valuation τ sig (Elt F) := fun c b => (s₀ m ρ).mem ((c : Dev nD), b)

/-- After the first host stretch. -/
abbrev W1 : Dev nD → Valuation τ sig (Elt F) := fun c => StableHlo.after hostOps0 (W0 m ρ c)
theorem W1_of (c : Dev nD) (r : Ref sig .tc) (h : r ∉ wrote0) : W1 m ρ c (Proc.devRef .tc r) = W0 m ρ c (Proc.devRef .tc r) :=
  StableHlo.after_of_writes_sub hostOps0 _ writes0 h

/-- After the first region. -/
def W2 (c : Dev nD) : Valuation τ sig (Elt F) :=
  Pipeline.withArrays spec0 c (W1 m ρ c) fun w => (Front.dat (tcOf (W1 m ρ)) c).arrAt w cfg0.N
theorem W2_arr (c : Dev nD) (w : Fin cfg0.W) :
    W2 m ρ c (Proc.devRef .tc (Pipeline.arrRef spec0 w)) = (Front.dat (tcOf (W1 m ρ)) c).arrAt w cfg0.N := by
  unfold W2; exact Pipeline.withArrays_arr spec0 launch0.win.arr_inj c _ _ w
theorem W2_off (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer that is no output array of the region keeps its contents. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((Front.dat (tcOf (W1 m ρ)) c).arrAt_in w (h w rfl) _).trans (by dsimp only [Front.dat]))
  · exact W2_off m ρ c r fun w e => hw ⟨w, e⟩
theorem reads0 : ∀ a ∈ args, ∀ w : Fin cfg0.W, Pipeline.arrRef spec0 w = a → (cfg0.win w).isOut = false :=
  ListAll.forall_mem_of_all_decide (by decide +kernel)

/-- After the second host stretch. -/
abbrev W3 : Dev nD → Valuation τ sig (Elt F) := fun c => StableHlo.after hostOps1 (W2 m ρ c)
theorem W3_of (c : Dev nD) (r : Ref sig .tc) (h : r ∉ wrote1) : W3 m ρ c (Proc.devRef .tc r) = W2 m ρ c (Proc.devRef .tc r) :=
  StableHlo.after_of_writes_sub hostOps1 _ writes1 h

/-- After the second region. -/
def W4 (c : Dev nD) : Valuation τ sig (Elt F) :=
  Pipeline.withArrays spec1 c (W3 m ρ c) fun w => (Mid1.dat (tcOf (W3 m ρ)) c).arrAt w cfg1.N
theorem W4_arr (c : Dev nD) (w : Fin cfg1.W) :
    W4 m ρ c (Proc.devRef .tc (Pipeline.arrRef spec1 w)) = (Mid1.dat (tcOf (W3 m ρ)) c).arrAt w cfg1.N := by
  unfold W4; exact Pipeline.withArrays_arr spec1 launch1.win.arr_inj c _ _ w
theorem W4_off (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A buffer that is no output array of the region keeps its contents. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((Mid1.dat (tcOf (W3 m ρ)) c).arrAt_in w (h w rfl) _).trans (by dsimp only [Mid1.dat]))
  · exact W4_off m ρ c r fun w e => hw ⟨w, e⟩
theorem reads1 : ∀ a ∈ args, ∀ w : Fin cfg1.W, Pipeline.arrRef spec1 w = a → (cfg1.win w).isOut = false :=
  ListAll.forall_mem_of_all_decide (by decide +kernel)

/-- After the third host stretch. -/
abbrev W5 : Dev nD → Valuation τ sig (Elt F) := fun c => StableHlo.after hostOps2 (W4 m ρ c)
theorem W5_of (c : Dev nD) (r : Ref sig .tc) (h : r ∉ wrote2) : W5 m ρ c (Proc.devRef .tc r) = W4 m ρ c (Proc.devRef .tc r) :=
  StableHlo.after_of_writes_sub hostOps2 _ writes2 h

/-- After the third region. -/
def W6 (c : Dev nD) : Valuation τ sig (Elt F) :=
  Pipeline.withArrays spec2 c (W5 m ρ c) fun w => (Mid.dat (tcOf (W5 m ρ)) c).arrAt w cfg2.N
theorem W6_arr (c : Dev nD) (w : Fin cfg2.W) :
    W6 m ρ c (Proc.devRef .tc (Pipeline.arrRef spec2 w)) = (Mid.dat (tcOf (W5 m ρ)) c).arrAt w cfg2.N := by
  unfold W6; exact Pipeline.withArrays_arr spec2 launch2.win.arr_inj c _ _ w
theorem W6_off (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A buffer that is no output array of the region keeps its contents. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((Mid.dat (tcOf (W5 m ρ)) c).arrAt_in w (h w rfl) _).trans (by dsimp only [Mid.dat]))
  · exact W6_off m ρ c r fun w e => hw ⟨w, e⟩
theorem reads2 : ∀ a ∈ args, ∀ w : Fin cfg2.W, Pipeline.arrRef spec2 w = a → (cfg2.win w).isOut = false :=
  ListAll.forall_mem_of_all_decide (by decide +kernel)

/-- After the last region. -/
def W7 (c : Dev nD) : Valuation τ sig (Elt F) :=
  Pipeline.withArrays spec3 c (W6 m ρ c) fun w => (Tail.dat (tcOf (W6 m ρ)) c).arrAt w cfg3.N
theorem W7_arr (c : Dev nD) (w : Fin cfg3.W) :
    W7 m ρ c (Proc.devRef .tc (Pipeline.arrRef spec3 w)) = (Tail.dat (tcOf (W6 m ρ)) c).arrAt w cfg3.N := by
  unfold W7; exact Pipeline.withArrays_arr spec3 launch3.win.arr_inj c _ _ w
theorem W7_off (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- A buffer that is no output array of the region keeps its contents. -/
theorem W7_of (c : Dev nD) (r : Ref sig .tc) (h : ∀ w : Fin cfg3.W, Pipeline.arrRef spec3 w = r → (cfg3.win w).isOut = false) :
    W7 m ρ c (Proc.devRef .tc r) = W6 m ρ c (Proc.devRef .tc r) := by
  by_cases hw : ∃ w : Fin cfg3.W, Pipeline.arrRef spec3 w = r
  · obtain ⟨w, rfl⟩ := hw
    exact (W7_arr m ρ c w).trans (((Tail.dat (tcOf (W6 m ρ)) c).arrAt_in w (h w rfl) _).trans (by dsimp only [Tail.dat]))
  · exact W7_off m ρ c r fun w e => hw ⟨w, e⟩
theorem reads3 : ∀ a ∈ args, ∀ w : Fin cfg3.W, Pipeline.arrRef spec3 w = a → (cfg3.win w).isOut = false :=
  ListAll.forall_mem_of_all_decide (by decide +kernel)

/-- An argument array ends as launched. -/
theorem W7_args (c : Dev nD) (a : Ref sig .tc) (ha : a ∈ args) : W7 m ρ c (Proc.devRef .tc a) = m ((c : Thread nD τ).loc a) :=
  (W7_of m ρ c a (reads3 a ha)).trans <| (W6_of m ρ c a (reads2 a ha)).trans <| (W5_of m ρ c a (keeps2 a ha)).trans <|
    (W4_of m ρ c a (reads1 a ha)).trans <| (W3_of m ρ c a (keeps1 a ha)).trans <| (W2_of m ρ c a (reads0 a ha)).trans (W1_of m ρ c a (keeps0 a ha))

/-! ## The segments -/

/-- No pipeline prefetches a table. -/
abbrev adm : (p : Fin 4) → (pcfgs (F := F) p).Adm := fun p => (cfgs p).toPCfg_adm
/-- The proof data of every region, each from the buffers at its entry. -/
def pdats : (p : Fin 4) → (c : Dev nD) → Dat τ (Elt F) Unit ℕ (UR sig nD τ) ℕ (Pipeline.pin (pcfgs (F := F)) adm p) c
  | ⟨0, _⟩ => fun c => Front.dat (tcOf (W1 m ρ)) c
  | ⟨1, _⟩ => fun c => Mid1.dat (tcOf (W3 m ρ)) c
  | ⟨2, _⟩ => fun c => Mid.dat (tcOf (W5 m ρ)) c
  | ⟨3, _⟩ => fun c => Tail.dat (tcOf (W6 m ρ)) c
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- A host stretch as a segment, from the buffers `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- A region as a segment: entered from every buffer at `W`, left with them at `W'`, which agrees with what the pipeline leaves on
    the region's arrays and with `W` elsewhere. -/
def rseg (p : Fin 4) (hl : Pipeline.LaunchFacts (nD := nD) (τ := τ) cfgs p) (W W' : Dev nD → Valuation τ sig (Elt F))
    (hbody : ∀ c, BodyObligation (pdats m ρ p c) (defs₀ (F := F)) Variants.none () Set.univ)
    (hA : ∀ c w, (pdats m ρ p c).A w = tcOf W c (Pipeline.arrRef (cfgs p).spec w))
    (hΦ : ∀ c t, (pdats m ρ p c).Φ t = Pipeline.ΦA (cfgs p).spec c)
    (howed : ∀ c t, (pdats m ρ p c).owed t = 0) (hq : ∀ c w, (pdats m ρ p c).q w = fullShare)
    (hF : ∀ c w, (pdats m ρ p c).arrAt w (cfgs p).N = tcOf W' c (Pipeline.arrRef (cfgs p).spec w))
    (hrest : ∀ c b, b ∉ Finset.univ.image (Pipeline.arrRef (cfgs p).spec) → tcOf W' c b = tcOf W c b)
    (hrec : ∀ c t, (pdats m ρ p c).recorded t = Set.univ) :
    Pipeline.RegionSeg (pcfgs (F := F)) adm (pdats m ρ) () defs₀ Variants.none L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c (tcOf W c)
  hentry c := by
    rw [Pipeline.ownSems0_none]
    have hsplit := Pipeline.arrays_of_unscopedBufs (p := p) (pcfgs (F := F)) adm (pdats m ρ) hl.win hl.arr_whole c
      ((pdats m ρ p c).share_full (hq c)) (tcOf W c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr; · ipureintro; exact fun _ _ => Or.inl (by rw [hrec]; trivial)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c (pdats m ρ) ((pdats m ρ p c).share_full (hq c))
      (tcOf W c) (tcOf W' c) ((pdats m ρ p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed]
    icases HO with ⟨%W, -, HO⟩; iexists W; iexact HO

/-- Region 0 as a segment. -/
def reg0 : Pipeline.RegionSeg (pcfgs (F := F)) adm (pdats m ρ) () defs₀ Variants.none L lv 0 :=
  rseg m ρ 0 launch0 (W1 m ρ) (W2 m ρ) (Front.obligation (tcOf (W1 m ρ))) (fun _ _ => rfl) (fun _ _ => rfl) (fun _ _ => rfl)
    (fun _ _ => rfl) (fun c w => (W2_arr m ρ c w).symm)
    (fun c b hb => W2_off m ρ c b fun w e => hb (Finset.mem_image.mpr ⟨w, Finset.mem_univ _, e⟩)) (fun _ _ => rfl)
/-- Region 1 as a segment. -/
def reg1 : Pipeline.RegionSeg (pcfgs (F := F)) adm (pdats m ρ) () defs₀ Variants.none L lv 1 :=
  rseg m ρ 1 launch1 (W3 m ρ) (W4 m ρ) (Mid1.obligation (tcOf (W3 m ρ))) (fun _ _ => rfl) (fun _ _ => rfl) (fun _ _ => rfl)
    (fun _ _ => rfl) (fun c w => (W4_arr m ρ c w).symm)
    (fun c b hb => W4_off m ρ c b fun w e => hb (Finset.mem_image.mpr ⟨w, Finset.mem_univ _, e⟩)) (fun _ _ => rfl)
/-- Region 2 as a segment. -/
def reg2 : Pipeline.RegionSeg (pcfgs (F := F)) adm (pdats m ρ) () defs₀ Variants.none L lv 2 :=
  rseg m ρ 2 launch2 (W5 m ρ) (W6 m ρ) (Mid.obligation (tcOf (W5 m ρ))) (fun _ _ => rfl) (fun _ _ => rfl) (fun _ _ => rfl)
    (fun _ _ => rfl) (fun c w => (W6_arr m ρ c w).symm)
    (fun c b hb => W6_off m ρ c b fun w e => hb (Finset.mem_image.mpr ⟨w, Finset.mem_univ _, e⟩)) (fun _ _ => rfl)
/-- Region 3 as a segment. -/
def reg3 : Pipeline.RegionSeg (pcfgs (F := F)) adm (pdats m ρ) () defs₀ Variants.none L lv 3 :=
  rseg m ρ 3 launch3 (W6 m ρ) (W7 m ρ) (Tail.obligation (tcOf (W6 m ρ))) (fun _ _ => rfl) (fun _ _ => rfl) (fun _ _ => rfl)
    (fun _ _ => rfl) (fun c w => (W7_arr m ρ c w).symm)
    (fun c b hb => W7_off m ρ c b fun w e => hb (Finset.mem_image.mpr ⟨w, Finset.mem_univ _, e⟩)) (fun _ _ => rfl)

/-! ## The program is the run of its segments, and what it ends with -/

abbrev segs : List (Pipeline.Seg (pcfgs (F := F)) adm (pdats m ρ) () defs₀ Variants.none L lv) :=
  [ .host (hseg hostOps0 hostOps0_sub fresh0 (W0 m ρ)),
    .region (reg0 m ρ),
    .host (hseg hostOps1 hostOps1_sub fresh1 (W2 m ρ)),
    .region (reg1 m ρ),
    .host (hseg hostOps2 hostOps2_sub fresh2 (W4 m ρ)),
    .region (reg2 m ρ),
    .region (reg3 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- From any memory with zero counters every execution ends, with every buffer of every core at `W7` and every counter at zero. -/
theorem ends : θ_run defs (onTc (τ := τ) (main (F := F))) ⟨m, fun _ => 0, ρ⟩ (fun r =>
      (∀ c : Dev nD, ∀ b ∈ Pipeline.ucRefs τ sig, r.2.mem (((c : Thread nD τ)).1, b) = W7 m ρ c b) ∧ r.2.sem = fun _ => 0) :=
  Pipeline.θ_run_regions_kit_sems (pcfgs (F := F)) adm (pdats m ρ) () cellOf_inj emb₁ defs₀ Variants.none L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W7 m ρ c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

/-- What a final state of `ends` holds of a buffer that outlives the regions. -/
theorem end_at {μ : (ℓ : Loc nD τ sig) → Buf (Elt F) ℓ} (h : ∀ c : Dev nD, ∀ b ∈ Pipeline.ucRefs τ sig, μ (((c : Thread nD τ)).1, b) = W7 m ρ c b)
    (c : Dev nD) (b : Ref sig .tc) (hb : ¬ (Proc.devRef .tc b : DevRef τ sig).isScoped) :
    μ ((c.tc : Thread nD τ).loc b) = W7 m ρ c (Proc.devRef .tc b) := h c _ (mem_uc b hb)

/-- What a final state of `ends` holds of an argument. -/
theorem end_arg {μ : (ℓ : Loc nD τ sig) → Buf (Elt F) ℓ} (h : ∀ c : Dev nD, ∀ b ∈ Pipeline.ucRefs τ sig, μ (((c : Thread nD τ)).1, b) = W7 m ρ c b)
    (c : Dev nD) (a : Ref sig .tc) (ha : a ∈ args) : μ ((c.tc : Thread nD τ).loc a) = m ((c.tc : Thread nD τ).loc a) :=
  (end_at m ρ h c a ((show ∀ a ∈ args, ¬ (Proc.devRef .tc a : DevRef τ sig).isScoped from
    ListAll.forall_mem_of_all_decide (by decide)) a ha)).trans (W7_args m ρ c a ha)

/-- Every execution ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun r h => ⟨fun c => by
    have e := fun a ha => end_arg m ρ h.1 c a ha
    exact ⟨e main_arg0 (by decide), e main_arg1 (by decide), e main_arg2 (by decide), e main_arg3 (by decide), e main_arg4 (by decide), e main_arg5 (by decide), e main_arg6 (by decide), e main_arg7 (by decide), e main_arg8 (by decide), e main_arg9 (by decide), e main_arg10 (by decide), e main_arg11 (by decide), e main_arg12 (by decide), e main_arg13 (by decide), e main_arg14 (by decide)⟩, h.2⟩) (ends m ρ)

end Cert.KernelIdeal.Run

end
-- ==== Proof.Value.Math.lean ====
/-
  The mathematics over the reals: a batch normalisation as one scale and one shift, its moments from segmented sums, and
  the three-layer network the program computes.
-/
module

public import Idealize.ShloMosaic.Lib.Pointwise
public import Mathlib.Tactic.Ring
public import Mathlib.Tactic.Linarith
public import Mathlib.Tactic.NormNum

@[expose] public section

set_option maxRecDepth 16384

noncomputable section

namespace Cert.Model

/-- The number added to a variance. -/
def eps : ℝ := 10995116 / 1099511627776

theorem eps_pos : 0 < eps := by unfold eps; norm_num

/-- A variance of `32768` values, from their sum and the sum of their squares, and `eps` added. -/
def rad (s q : ℝ) : ℝ := q * (1 / 32768) - s * (1 / 32768) * (s * (1 / 32768)) + eps

/-- The factor of a normalisation. -/
def scale (s q g : ℝ) : ℝ := g * (Real.sqrt (rad s q))⁻¹

/-- The summand of a normalisation. -/
def shift (s q g b : ℝ) : ℝ := b - s * (1 / 32768) * scale s q g

/-- The mean of `32768` values. -/
def mean {ι : Type*} [Fintype ι] (y : ι → ℝ) : ℝ := (∑ i, y i) * (1 / 32768)

/-- Their variance about the mean. -/
def var {ι : Type*} [Fintype ι] (y : ι → ℝ) : ℝ := (∑ i, (y i - mean y) * (y i - mean y)) * (1 / 32768)

section Normalise
variable {ι : Type*} [Fintype ι] (hN : (Fintype.card ι : ℝ) = 32768) (y : ι → ℝ)
include hN

/-- The mean of the squares less the square of the mean is the variance. -/
theorem rad_eq : rad (∑ i, y i) (∑ i, y i * y i) = var y + eps := by
  have h : ∑ i, (y i - mean y) * (y i - mean y)
      = ∑ i, y i * y i - 2 * mean y * ∑ i, y i + 32768 * (mean y * mean y) := by
    rw [← hN, Finset.mul_sum, ← nsmul_eq_mul, ← Finset.card_univ, ← Finset.sum_const, ← Finset.sum_sub_distrib,
      ← Finset.sum_add_distrib]
    exact Finset.sum_congr rfl fun i _ => by ring
  have hm : ∑ i, y i = 32768 * mean y := by unfold mean; ring
  unfold rad var
  rw [h, hm]; ring

theorem rad_pos : 0 < rad (∑ i, y i) (∑ i, y i * y i) := by
  rw [rad_eq hN]
  have : 0 ≤ var y := mul_nonneg (Finset.sum_nonneg fun i _ => mul_self_nonneg _) (by norm_num)
  linarith [eps_pos]

/-- One scale and one shift are the normalisation. -/
theorem normalise (g b : ℝ) (i : ι) :
    y i * scale (∑ i, y i) (∑ i, y i * y i) g + shift (∑ i, y i) (∑ i, y i * y i) g b
      = (y i - mean y) * (1 / Real.sqrt (var y + eps)) * g + b := by
  unfold shift scale
  rw [rad_eq hN]; unfold mean
  rw [one_div (Real.sqrt _)]; ring

end Normalise

/-! ## The input as a matrix of `32768` rows -/

/-- Row `r`'s batch element. -/
def bat (r : Fin 32768) : Fin 16 := ⟨r.val / 2048, by omega⟩
/-- Row `r`'s channel. -/
def chan (r : Fin 32768) : Fin 128 := ⟨r.val % 2048 / 16, by omega⟩
/-- Entry `k` of row `r` along the length. -/
def pos (r : Fin 32768) (k : Fin 128) : Fin 2048 := ⟨r.val % 16 * 128 + k.val, by omega⟩

/-- The input cut into rows. -/
def rows (X : Fin 16 → Fin 128 → Fin 2048 → ℝ) (r : Fin 32768) (k : Fin 128) : ℝ := X (bat r) (chan r) (pos r k)

/-- A channel's sum. -/
def sum0 (X : Fin 16 → Fin 128 → Fin 2048 → ℝ) (c : Fin 128) : ℝ := ∑ b, ∑ l, X b c l
/-- The sum of a channel's squares. -/
def sq0 (X : Fin 16 → Fin 128 → Fin 2048 → ℝ) (c : Fin 128) : ℝ := ∑ b, ∑ l, X b c l * X b c l

theorem sum0_eq (X : Fin 16 → Fin 128 → Fin 2048 → ℝ) (c : Fin 128) : sum0 X c = ∑ p : Fin 16 × Fin 2048, X p.1 c p.2 :=
  (Fintype.sum_prod_type (fun p : Fin 16 × Fin 2048 => X p.1 c p.2)).symm
theorem sq0_eq (X : Fin 16 → Fin 128 → Fin 2048 → ℝ) (c : Fin 128) :
    sq0 X c = ∑ p : Fin 16 × Fin 2048, X p.1 c p.2 * X p.1 c p.2 :=
  (Fintype.sum_prod_type (fun p : Fin 16 × Fin 2048 => X p.1 c p.2 * X p.1 c p.2)).symm

theorem card_batch : (Fintype.card (Fin 16 × Fin 2048) : ℝ) = 32768 := by simp
theorem card_rows : (Fintype.card (Fin 32768) : ℝ) = 32768 := by simp

theorem rad0_pos (X : Fin 16 → Fin 128 → Fin 2048 → ℝ) (c : Fin 128) : 0 < rad (sum0 X c) (sq0 X c) := by
  rw [sum0_eq, sq0_eq]; exact rad_pos card_batch fun p : Fin 16 × Fin 2048 => X p.1 c p.2

/-- A column's sum over the rows. -/
def colSum (y : Fin 32768 → Fin 256 → ℝ) (j : Fin 256) : ℝ := ∑ r, y r j
/-- The sum of a column's squares. -/
def colSq (y : Fin 32768 → Fin 256 → ℝ) (j : Fin 256) : ℝ := ∑ r, y r j * y r j

theorem radCol_pos (y : Fin 32768 → Fin 256 → ℝ) (j : Fin 256) : 0 < rad (colSum y j) (colSq y j) :=
  rad_pos card_rows fun r => y r j

/-- The normalised columns. -/
def bn (y : Fin 32768 → Fin 256 → ℝ) (g b : Fin 256 → ℝ) (r : Fin 32768) (j : Fin 256) : ℝ :=
  y r j * scale (colSum y j) (colSq y j) (g j) + shift (colSum y j) (colSq y j) (g j) (b j)

/-- A linear layer. -/
def linear {n m : ℕ} (y : Fin 32768 → Fin n → ℝ) (w : Fin m → Fin n → ℝ) (b : Fin m → ℝ) (r : Fin 32768) (j : Fin m) : ℝ :=
  (∑ k, y r k * w j k) + b j

/-- Negative entries replaced by zero. -/
def relu (y : Fin 32768 → Fin 256 → ℝ) (r : Fin 32768) (j : Fin 256) : ℝ := max (y r j) 0

/-- The normalised input. -/
def xn (X : Fin 16 → Fin 128 → Fin 2048 → ℝ) (g b : Fin 128 → ℝ) (n : Fin 16) (c : Fin 128) (l : Fin 2048) : ℝ :=
  X n c l * scale (sum0 X c) (sq0 X c) (g c) + shift (sum0 X c) (sq0 X c) (g c) (b c)

/-! ## Rows by grid point -/

/-- Row `r` of grid point `t`. -/
def at4 (t : Fin 4) (r : Fin 8192) : Fin 32768 := ⟨t.val * 8192 + r.val, by omega⟩

/-- A sum over consecutive runs of equal length. -/
theorem sum_runs {M : Type*} [AddCommMonoid M] {m n k : ℕ} (h : m * n = k) (f : Fin k → M) :
    ∑ i : Fin m, ∑ r : Fin n, f ⟨i.val * n + r.val, by
      have := i.isLt; have := r.isLt
      calc i.val * n + r.val < i.val * n + n := by omega
        _ = (i.val + 1) * n := by ring
        _ ≤ m * n := Nat.mul_le_mul_right _ (by omega)
        _ = k := h⟩ = ∑ r, f r := by
  subst h
  rw [← Fintype.sum_prod_type']
  refine Fintype.sum_equiv finProdFinEquiv _ _ fun p => congrArg f (Fin.ext ?_)
  show p.1.val * n + p.2.val = p.2.val + n * p.1.val
  ring

theorem sum_at4 {M : Type*} [AddCommMonoid M] (f : Fin 32768 → M) : ∑ t, ∑ r, f (at4 t r) = ∑ r, f r :=
  sum_runs (m := 4) (n := 8192) rfl f

/-- A column's sum over the rows of one grid point. -/
def partSum (y : Fin 32768 → Fin 256 → ℝ) (t : Fin 4) (j : Fin 256) : ℝ := ∑ r, y (at4 t r) j
/-- The same of the squares. -/
def partSq (y : Fin 32768 → Fin 256 → ℝ) (t : Fin 4) (j : Fin 256) : ℝ := ∑ r, y (at4 t r) j * y (at4 t r) j

theorem sum_part (y : Fin 32768 → Fin 256 → ℝ) (j : Fin 256) : ∑ t, partSum y t j = colSum y j := sum_at4 fun r => y r j
theorem sum_partSq (y : Fin 32768 → Fin 256 → ℝ) (j : Fin 256) : ∑ t, partSq y t j = colSq y j :=
  sum_at4 fun r => y r j * y r j

/-! ## The first layer's moments from sums over a channel -/

section Segments
variable (X : Fin 16 → Fin 128 → Fin 2048 → ℝ) (w : Fin 256 → Fin 128 → ℝ) (a e : Fin 128 → ℝ) (b : Fin 256 → ℝ)

/-- The product of the raw rows. -/
def raw (r : Fin 32768) (j : Fin 256) : ℝ := ∑ k, rows X r k * w j k

/-- What the shift of a channel adds to its rows' products. -/
def off (c : Fin 128) (j : Fin 256) : ℝ := e c * (∑ k, w j k) + b j

/-- A channel's sum of raw products. -/
def seg (c : Fin 128) (j : Fin 256) : ℝ := ∑ r, if chan r = c then raw X w r j else 0
/-- The same of their squares. -/
def segSq (c : Fin 128) (j : Fin 256) : ℝ := ∑ r, if chan r = c then raw X w r j * raw X w r j else 0

/-- A row of the first layer is a channel's scale times the raw product and the channel's offset. -/
theorem linear_raw (r : Fin 32768) (j : Fin 256) :
    linear (rows fun n c l => X n c l * a c + e c) w b r j = raw X w r j * a (chan r) + off w e b (chan r) j := by
  unfold linear raw off rows
  rw [Finset.sum_mul, Finset.mul_sum, ← add_assoc, ← Finset.sum_add_distrib]
  congr 1
  exact Finset.sum_congr rfl fun k _ => by ring

/-- A sum of a channel's value over the rows: each channel has `256` rows. -/
theorem sum_chan (f : Fin 128 → ℝ) : ∑ r, f (chan r) = 256 * ∑ c, f c := by
  have e : ∀ c : Fin 128, (Finset.univ.filter fun r => chan r = c).card = 256 := by
    intro c
    have hb : (Finset.univ.filter fun r => chan r = c)
        = Finset.univ.image fun p : Fin 16 × Fin 16 => (⟨p.1.val * 2048 + c.val * 16 + p.2.val, by omega⟩ : Fin 32768) := by
      ext r
      simp only [Finset.mem_filter, Finset.mem_univ, true_and, Finset.mem_image, Prod.exists, chan, Fin.ext_iff]
      constructor
      · intro h
        exact ⟨⟨r.val / 2048, by omega⟩, ⟨r.val % 16, by omega⟩, by simp only []; omega⟩
      · rintro ⟨p, q, h⟩; omega
    rw [hb, Finset.card_image_of_injective]
    · simp
    · rintro ⟨p, q⟩ ⟨p', q'⟩ h
      simp only [Fin.mk.injEq] at h
      simp only [Prod.mk.injEq, Fin.ext_iff]; omega
  rw [← Finset.sum_fiberwise (s := Finset.univ) (g := chan), Finset.mul_sum]
  refine Finset.sum_congr rfl fun c _ => ?_
  rw [Finset.sum_congr rfl fun r (hr : r ∈ Finset.univ.filter fun r => chan r = c) => by
    rw [(Finset.mem_filter.mp hr).2], Finset.sum_const, e]
  simp

/-- A weighted sum over the rows, channel by channel. -/
theorem sum_seg (f : Fin 128 → ℝ) (v : Fin 32768 → ℝ) :
    ∑ c, f c * (∑ r, if chan r = c then v r else 0) = ∑ r, f (chan r) * v r := by
  simp only [Finset.mul_sum]
  rw [Finset.sum_comm]
  refine Finset.sum_congr rfl fun r _ => ?_
  simp only [mul_ite, mul_zero, Finset.sum_ite_eq, Finset.mem_univ, if_true]

theorem colSum_seg (j : Fin 256) :
    (∑ c, a c * seg X w c j) + 256 * (∑ c, off w e b c j)
      = colSum (linear (rows fun n c l => X n c l * a c + e c) w b) j := by
  unfold colSum seg
  simp only [linear_raw]
  rw [sum_seg, ← sum_chan fun c => off w e b c j, ← Finset.sum_add_distrib]
  exact Finset.sum_congr rfl fun r _ => by ring

theorem colSq_seg (j : Fin 256) :
    (∑ c, (a c * a c * segSq X w c j + 2 * a c * off w e b c j * seg X w c j + 256 * off w e b c j * off w e b c j))
      = colSq (linear (rows fun n c l => X n c l * a c + e c) w b) j := by
  unfold colSq seg segSq
  simp only [linear_raw]
  rw [Finset.sum_add_distrib, Finset.sum_add_distrib, sum_seg (fun c => a c * a c),
    sum_seg (fun c => 2 * a c * off w e b c j)]
  have h := sum_chan fun c => off w e b c j * off w e b c j
  rw [Finset.mul_sum] at h
  rw [Finset.sum_congr rfl fun c (_ : c ∈ Finset.univ) => mul_assoc 256 (off w e b c j) (off w e b c j), ← h,
    ← Finset.sum_add_distrib, ← Finset.sum_add_distrib]
  exact Finset.sum_congr rfl fun r _ => by ring

end Segments

end Cert.Model
end
-- ==== Proof.Value.Kit.lean ====
/-
  Extended reals that are real numbers, the constants of the two programs, and the sums over two of three axes.
-/
module

public import proofs.«01_k».proof.Proof.Value.Math

@[expose] public section

noncomputable section

namespace Cert.Kit

open Idealize.ShloMosaic

/-! ## Real numbers among the extended ones -/

theorem sum_coe {ι : Type*} (s : Finset ι) (f : ι → ℝ) : ∑ i ∈ s, ((f i : ℝ) : EReal) = ((∑ i ∈ s, f i : ℝ) : EReal) :=
  (map_sum (⟨⟨(fun x : ℝ => (x : EReal)), EReal.coe_zero⟩, EReal.coe_add⟩ : ℝ →+ EReal) f s).symm

theorem max_coe (x y : ℝ) : max (x : EReal) (y : EReal) = ((max x y : ℝ) : EReal) :=
  (Monotone.map_max (fun _ _ h => EReal.coe_le_coe_iff.mpr h)).symm

theorem max_zero_coe (x : ℝ) : max (x : EReal) 0 = ((max x 0 : ℝ) : EReal) := max_coe x 0

theorem rsqrt_coe {r : ℝ} (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr h.le), if_neg h.ne']

/-- The array of two axes that holds real numbers. -/
def mat {n m : ℕ} (f : Fin n → Fin m → ℝ) (i : (⟨2, ![n, m]⟩ : Shape).Idx) : EReal := ((f (i 0) (i 1) : ℝ) : EReal)

/-- The same with an axis of extent one between the two. -/
def mat1 {n m : ℕ} (f : Fin n → Fin m → ℝ) (i : (⟨3, ![n, 1, m]⟩ : Shape).Idx) : EReal := ((f (i 0) (i 2) : ℝ) : EReal)

/-! ## The constants -/

theorem lit_mean : Ideal.ofBits .f32 0x38000000#32 = ((1 / 32768 : ℝ) : EReal) := by
  simp [Ideal.ofBits, Ideal.ieee, -EReal.coe_mul]; norm_num

theorem lit_eps : Ideal.ofBits .f32 0x3727C5AC#32 = ((Model.eps : ℝ) : EReal) := by
  simp [Ideal.ofBits, Ideal.ieee, Model.eps, -EReal.coe_mul]; norm_num

theorem lit_256 : Ideal.ofBits .f32 0x43800000#32 = ((256 : ℝ) : EReal) := by
  simp [Ideal.ofBits, Ideal.ieee, -EReal.coe_mul]; norm_num

theorem lit_2 : Ideal.ofBits .f32 0x40000000#32 = ((2 : ℝ) : EReal) := by
  simp [Ideal.ofBits, Ideal.ieee, -EReal.coe_mul]; norm_num

theorem lit_count : Ideal.ofBits .f32 0x47000000#32 = ((32768 : ℝ) : EReal) := by
  simp [Ideal.ofBits, Ideal.ieee, -EReal.coe_mul]; norm_num

theorem lit_inf : Ideal.ofBits .f32 0x7F800000#32 = ⊤ := by
  simp [Ideal.ofBits, Ideal.ieee]

/-- The scale of a normalisation, as the programs compute it. -/
theorem scale_coe {s q : ℝ} (g : ℝ) (h : 0 < Model.rad s q) :
    (g : EReal) * Ideal.rsqrt (((q * (1 / 32768) - s * (1 / 32768) * (s * (1 / 32768)) + Model.eps : ℝ)) : EReal)
      = ((Model.scale s q g : ℝ) : EReal) := by
  rw [show q * (1 / 32768) - s * (1 / 32768) * (s * (1 / 32768)) + Model.eps = Model.rad s q from rfl, rsqrt_coe h,
    ← EReal.coe_mul]; rfl

/-! ## Sums over two of three axes -/

section Axes
variable {n0 n1 n2 : ℕ}

theorem reduceAdd_a01 (h : (⟨3, ![n0, n1, n2]⟩ : Shape).Reduces [0, 1] ⟨1, ![n2]⟩)
    (v : (⟨3, ![n0, n1, n2]⟩ : Shape).Idx → EReal) (j : Fin n2) :
    Ideal.reduceAdd h v (ix1 j) = ∑ a, ∑ b, v (ix3 a b j) := by
  have key : ∀ a b c, h.drop (ix3 a b c) = ix1 j ↔ c = j := by
    intro a b c
    constructor
    · intro e; exact congrFun e 0
    · rintro rfl; funext d; match d with | ⟨0, _⟩ => rfl
  show ∑ i ∈ Finset.univ.filter (fun i => h.drop i = ix1 j), v i = _
  rw [Finset.sum_filter, sum_idx3]
  simp only [key, Finset.sum_ite_eq', Finset.mem_univ, if_true]

theorem reduceAdd_a02 (h : (⟨3, ![n0, n1, n2]⟩ : Shape).Reduces [0, 2] ⟨1, ![n1]⟩)
    (v : (⟨3, ![n0, n1, n2]⟩ : Shape).Idx → EReal) (j : Fin n1) :
    Ideal.reduceAdd h v (ix1 j) = ∑ a, ∑ b, v (ix3 a j b) := by
  have key : ∀ a b c, h.drop (ix3 a b c) = ix1 j ↔ b = j := by
    intro a b c
    constructor
    · intro e; exact congrFun e 0
    · rintro rfl; funext d; match d with | ⟨0, _⟩ => rfl
  show ∑ i ∈ Finset.univ.filter (fun i => h.drop i = ix1 j), v i = _
  rw [Finset.sum_filter, sum_idx3]
  refine Finset.sum_congr rfl fun a _ => ?_
  rw [Finset.sum_comm]
  simp only [key, Finset.sum_ite_eq', Finset.mem_univ, if_true]

theorem hostReduceAdd_a02 (h : (⟨3, ![n0, n1, n2]⟩ : Shape).ReducesTo [0, 2] ⟨1, ![n1]⟩)
    (v : (⟨3, ![n0, n1, n2]⟩ : Shape).Idx → EReal) (x : EReal) (j : Fin n1) :
    Ideal.hostReduceAdd h v x (ix1 j) = x + ∑ a, ∑ b, v (ix3 a j b) := by
  have key : ∀ a b c, h.drop (ix3 a b c) = ix1 j ↔ b = j := by
    intro a b c
    constructor
    · intro e; exact congrFun e 0
    · rintro rfl; funext d; match d with | ⟨0, _⟩ => rfl
  show x + ∑ i ∈ Finset.univ.filter (fun i => h.drop i = ix1 j), v i = _
  rw [Finset.sum_filter, sum_idx3]
  congr 1
  refine Finset.sum_congr rfl fun a _ => ?_
  rw [Finset.sum_comm]
  simp only [key, Finset.sum_ite_eq', Finset.mem_univ, if_true]

end Axes

end Cert.Kit
end
-- ==== Proof.Value.Conv.lean ====
/-
  A convolution of three taps over a padded length, and the result as both programs compute it.
-/
module

public import proofs.«01_k».proof.Proof.Value.Kit

@[expose] public section

noncomputable section

namespace Cert.Kit

open Idealize.ShloMosaic

/-- A row with a zero at both ends. -/
def pad (f : Fin 2048 → ℝ) (i : ℕ) : ℝ := if h : 1 ≤ i ∧ i ≤ 2048 then f ⟨i - 1, by omega⟩ else 0

theorem pad_in (f : Fin 2048 → ℝ) {i : ℕ} (l : Fin 2048) (e : i = l.val + 1) : pad f i = f l := by
  subst e
  have h : 1 ≤ l.val + 1 ∧ l.val + 1 ≤ 2048 := by omega
  unfold pad; rw [dif_pos h]; rfl
theorem pad_out (f : Fin 2048 → ℝ) {i : ℕ} (h : ¬ (1 ≤ i ∧ i ≤ 2048)) : pad f i = 0 := by
  unfold pad; rw [dif_neg h]

/-- The rows stacked three times, moved one to the right, not moved, and moved one to the left, are the padded rows. -/
theorem stack_coe (Z : Fin 128 → Fin 2048 → ℝ) (l : Fin 2048) (k : Fin 384) :
    (if h : k.val < 128 then if h' : l.val < 1 then (0 : EReal) else ((Z ⟨k.val, h⟩ ⟨l.val - 1, by omega⟩ : ℝ) : EReal)
      else if h' : k.val - 128 < 128 then ((Z ⟨k.val - 128, h'⟩ l : ℝ) : EReal)
      else if h'' : l.val < 2047 then ((Z ⟨k.val - 128 - 128, by omega⟩ ⟨1 + l.val, by omega⟩ : ℝ) : EReal) else 0)
      = ((pad (Z ⟨k.val % 128, by omega⟩) (l.val + k.val / 128) : ℝ) : EReal) := by
  by_cases h : k.val < 128
  · have e : (⟨k.val % 128, by omega⟩ : Fin 128) = ⟨k.val, h⟩ := Fin.ext (Nat.mod_eq_of_lt h)
    rw [dif_pos h, e, Nat.div_eq_of_lt h]
    by_cases h' : l.val < 1
    · rw [dif_pos h', pad_out _ (by omega)]; rfl
    · rw [dif_neg h', pad_in _ ⟨l.val - 1, by omega⟩ (by simp only []; omega)]
  · rw [dif_neg h]
    by_cases h' : k.val - 128 < 128
    · have e : (⟨k.val % 128, by omega⟩ : Fin 128) = ⟨k.val - 128, h'⟩ := Fin.ext (by simp only []; omega)
      rw [dif_pos h', e, pad_in _ l (by omega)]
    · have e : (⟨k.val % 128, by omega⟩ : Fin 128) = ⟨k.val - 128 - 128, by omega⟩ := Fin.ext (by simp only []; omega)
      rw [dif_neg h', e]
      by_cases h'' : l.val < 2047
      · rw [dif_pos h'', pad_in _ ⟨1 + l.val, by omega⟩ (by simp only []; omega)]
      · rw [dif_neg h'', pad_out _ (by omega)]; rfl

/-- The convolution at one place. -/
def conv (W : Fin 128 → Fin 3 → EReal) (Z : Fin 128 → Fin 2048 → ℝ) (l : Fin 2048) : EReal :=
  ∑ k : Fin 3, ∑ c, W c k * ((pad (Z c) (l.val + k.val) : ℝ) : EReal)

/-- The same as one sum over the stacked rows. -/
theorem conv_eq (W : Fin 128 → Fin 3 → EReal) (Z : Fin 128 → Fin 2048 → ℝ) (l : Fin 2048) (K : Fin 384 → EReal)
    (hK : ∀ k, K k = W ⟨k.val % 128, by omega⟩ ⟨k.val / 128, by omega⟩) :
    ∑ k : Fin 384, K k * ((pad (Z ⟨k.val % 128, by omega⟩) (l.val + k.val / 128) : ℝ) : EReal) = conv W Z l := by
  unfold conv
  rw [← Model.sum_runs (m := 3) (n := 128) rfl]
  refine Finset.sum_congr rfl fun q _ => Finset.sum_congr rfl fun c _ => ?_
  rw [hK]
  have e : (⟨(q.val * 128 + c.val) % 128, by omega⟩ : Fin 128) = c := Fin.ext (by simp only []; omega)
  have e' : (⟨(q.val * 128 + c.val) / 128, by omega⟩ : Fin 3) = q := Fin.ext (by simp only []; omega)
  have e'' : (q.val * 128 + c.val) / 128 = q.val := by omega
  simp only [e, e', e'']

/-- The result at a place: the convolution, its bias, negative values replaced by zero, plus the last layer's rows
    read in order. -/
def result (W : Fin 256 → Fin 128 → Fin 3 → EReal) (bias : Fin 256 → EReal) (Z : Fin 16 → Fin 128 → Fin 2048 → ℝ)
    (H : Fin 32768 → Fin 256 → ℝ) (i : (⟨3, ![16, 256, 2048]⟩ : Shape).Idx) : EReal :=
  max (conv (W (i 1)) (Z (i 0)) (i 2) + bias (i 1)) 0
    + ((H ⟨(i 0).val * 2048 + (i 1).val * 8 + (i 2).val / 256, by
        have h0 : (i 0).val < 16 := (i 0).isLt
        have h1 : (i 1).val < 256 := (i 1).isLt
        have h2 : (i 2).val < 2048 := (i 2).isLt
        omega⟩ ⟨(i 2).val % 256, Nat.mod_lt _ (by decide)⟩ : ℝ) : EReal)

end Cert.Kit
end
-- ==== Proof.Value.Data.lean ====
/-
  The real numbers the arguments hold, the three layers and the result computed from them.
-/
module

public import proofs.«01_k».proof.Proof.Value.Conv

@[expose] public section

noncomputable section

namespace Cert.Kit

open Idealize.ShloMosaic

/-- The real arguments: the input, both normalisations' scales and offsets, the three layers' weights and biases. -/
structure Data where
  X : Fin 16 → Fin 128 → Fin 2048 → ℝ
  g0 : Fin 128 → ℝ
  b0 : Fin 128 → ℝ
  w1 : Fin 256 → Fin 128 → ℝ
  e1 : Fin 256 → ℝ
  g : Fin 256 → ℝ
  b : Fin 256 → ℝ
  w2 : Fin 256 → Fin 256 → ℝ
  e2 : Fin 256 → ℝ
  w3 : Fin 256 → Fin 256 → ℝ
  e3 : Fin 256 → ℝ

namespace Data
variable (D : Data)

/-- The normalised input. -/
def z : Fin 16 → Fin 128 → Fin 2048 → ℝ := Model.xn D.X D.g0 D.b0
/-- The layers' rows before their normalisations. -/
def y1 : Fin 32768 → Fin 256 → ℝ := Model.linear (Model.rows D.z) D.w1 D.e1
def y2 : Fin 32768 → Fin 256 → ℝ := Model.linear (Model.relu (Model.bn D.y1 D.g D.b)) D.w2 D.e2
def y3 : Fin 32768 → Fin 256 → ℝ := Model.linear (Model.relu (Model.bn D.y2 D.g D.b)) D.w3 D.e3
/-- The last layer's rows. -/
def h : Fin 32768 → Fin 256 → ℝ := Model.relu (Model.bn D.y3 D.g D.b)

/-- The arrays hold these numbers. -/
structure Reads (a0 : (⟨3, ![16, 128, 2048]⟩ : Shape).Idx → EReal) (a3 a4 : (⟨1, ![128]⟩ : Shape).Idx → EReal)
    (a7 : (⟨2, ![256, 128]⟩ : Shape).Idx → EReal) (a8 a9 a10 : (⟨1, ![256]⟩ : Shape).Idx → EReal)
    (a11 : (⟨2, ![256, 256]⟩ : Shape).Idx → EReal) (a12 : (⟨1, ![256]⟩ : Shape).Idx → EReal)
    (a13 : (⟨2, ![256, 256]⟩ : Shape).Idx → EReal) (a14 : (⟨1, ![256]⟩ : Shape).Idx → EReal) : Prop where
  x : ∀ n k l, a0 (ix3 n k l) = ((D.X n k l : ℝ) : EReal)
  g0 : ∀ k, a3 (ix1 k) = ((D.g0 k : ℝ) : EReal)
  b0 : ∀ k, a4 (ix1 k) = ((D.b0 k : ℝ) : EReal)
  w1 : ∀ j k, a7 (ix2 j k) = ((D.w1 j k : ℝ) : EReal)
  e1 : ∀ k, a8 (ix1 k) = ((D.e1 k : ℝ) : EReal)
  g : ∀ k, a9 (ix1 k) = ((D.g k : ℝ) : EReal)
  b : ∀ k, a10 (ix1 k) = ((D.b k : ℝ) : EReal)
  w2 : ∀ j k, a11 (ix2 j k) = ((D.w2 j k : ℝ) : EReal)
  e2 : ∀ k, a12 (ix1 k) = ((D.e2 k : ℝ) : EReal)
  w3 : ∀ j k, a13 (ix2 j k) = ((D.w3 j k : ℝ) : EReal)
  e3 : ∀ k, a14 (ix1 k) = ((D.e3 k : ℝ) : EReal)

/-- The whole result, from the real numbers, the convolution's weights and its bias. -/
def out (a5 : (⟨3, ![256, 128, 3]⟩ : Shape).Idx → EReal) (a6 : (⟨1, ![256]⟩ : Shape).Idx → EReal) :
    (⟨3, ![16, 256, 2048]⟩ : Shape).Idx → EReal :=
  result (fun o k t => a5 (ix3 o k t)) (fun o => a6 (ix1 o)) D.z D.h

end Data

end Cert.Kit

end
-- ==== Proof.Value.Pre.lean ====
/-
  The precondition read back: the arrays it names hold real numbers.
-/
module

public import proofs.«01_k».proof.Pre_finite_inputs
public import proofs.«01_k».proof.Proof.Value.Data
public import Idealize.ShloMosaic.Lib.ReduceAll
public import Idealize.ShloMosaic.Lib.Pipeline.ValueKit

@[expose] public section

noncomputable section

namespace Cert.Pre_finite_inputs

open Idealize.ShloMosaic Cert.Kit

/-- The precondition's side conditions. -/
theorem facts : Facts where
  bcast_S_S16x128x2048 := by decide
  reducesTo_S16x128x2048_S_d0_1_2 := by decide
  h_S_ := by decide
  bcast_S_S128 := by decide
  reducesTo_S128_S_d0 := by decide
  bcast_S_S256x128 := by decide
  reducesTo_S256x128_S_d0_1 := by decide
  bcast_S_S256 := by decide
  reducesTo_S256_S_d0 := by decide
  bcast_S_S256x256 := by decide
  reducesTo_S256x256_S_d0_1 := by decide

/-- A magnitude below infinity is a real number's. -/
theorem real_of_lt {x : EReal} (h : max x (-x) < ⊤) : x = ((x.toReal : ℝ) : EReal) := by
  refine (EReal.coe_toReal ?_ ?_).symm
  · rintro rfl; simp at h
  · rintro rfl; simp at h

/-- Every entry of an array that passes the test is a real number. -/
theorem real_of_all {s : Shape} {axes : List (Fin s.rank)} (a : s.Idx → EReal) (bc : S_.BroadcastsInDim s (![] : Fin 0 → Fin s.rank))
    (red : s.ReducesTo axes S_) (hu : 0 < S_.numel)
    (h : Host.reduce IntOp.andi (cmpf (F := Ideal) .olt (Host.absf (F := Ideal) (φ := .f32) a)
      (broadcastInDim s ![] bc (constant (F := Ideal) S_ .f32 0x7F800000#32))) (constantI S_ 1 1#1) red hu ix0 = 1#1) (i : s.Idx) :
    a i = (((a i).toReal : ℝ) : EReal) := by
  have : Subsingleton S_.Idx := ⟨fun a b => funext fun k => k.elim0⟩
  have e := Host.reduce_andi_all _ _ red hu ix0 h i
  refine real_of_lt ?_
  have e' : Ideal.cmp .olt (max (a i) (-(a i))) (Ideal.ofBits .f32 0x7F800000#32) = 1#1 := e
  rw [lit_inf] at e'
  by_contra hn
  change BitVec.ofBool (decide (max (a i) (-(a i)) < ⊤)) = 1#1 at e'
  rw [decide_eq_false hn] at e'
  exact absurd e' (by decide)

section Decode
attribute [local instance] facts
variable (a0 : FVec Ideal S16x128x2048 .f32) (a1 : IVec S2x524288 32) (a2 : IVec S_ 32) (a3 a4 : FVec Ideal S128 .f32)
  (a5 : FVec Ideal S256x128x3 .f32) (a6 : FVec Ideal S256 .f32) (a7 : FVec Ideal S256x128 .f32) (a8 a9 a10 : FVec Ideal S256 .f32)
  (a11 : FVec Ideal S256x256 .f32) (a12 : FVec Ideal S256 .f32) (a13 : FVec Ideal S256x256 .f32) (a14 : FVec Ideal S256 .f32)

/-- The real numbers of the arrays. -/
def data : Data where
  X n k l := (a0 (ix3 n k l)).toReal
  g0 k := (a3 (ix1 k)).toReal
  b0 k := (a4 (ix1 k)).toReal
  w1 j k := (a7 (ix2 j k)).toReal
  e1 k := (a8 (ix1 k)).toReal
  g k := (a9 (ix1 k)).toReal
  b k := (a10 (ix1 k)).toReal
  w2 j k := (a11 (ix2 j k)).toReal
  e2 k := (a12 (ix1 k)).toReal
  w3 j k := (a13 (ix2 j k)).toReal
  e3 k := (a14 (ix1 k)).toReal

/-- Arrays that meet the precondition hold these numbers. -/
theorem reads (h : fn (F := Ideal) a0 a1 a2 a3 a4 a5 a6 a7 a8 a9 a10 a11 a12 a13 a14 = fun _ => 1#1) :
    (data a0 a3 a4 a7 a8 a9 a10 a11 a12 a13 a14).Reads a0 a3 a4 a7 a8 a9 a10 a11 a12 a13 a14 := by
  have e := congrFun h ix0
  dsimp only [fn, fn_part1, fn_part2, fn_part3] at e
  obtain ⟨e, h14⟩ := IntOp.andi_eq_one.mp e
  obtain ⟨e, h13⟩ := IntOp.andi_eq_one.mp e
  obtain ⟨e, h12⟩ := IntOp.andi_eq_one.mp e
  obtain ⟨e, h11⟩ := IntOp.andi_eq_one.mp e
  obtain ⟨e, h10⟩ := IntOp.andi_eq_one.mp e
  obtain ⟨e, h9⟩ := IntOp.andi_eq_one.mp e
  obtain ⟨e, h8⟩ := IntOp.andi_eq_one.mp e
  obtain ⟨e, h7⟩ := IntOp.andi_eq_one.mp e
  obtain ⟨e, h4⟩ := IntOp.andi_eq_one.mp e
  obtain ⟨h0, h3⟩ := IntOp.andi_eq_one.mp e
  exact {
    x := fun n k l => real_of_all a0 _ _ _ h0 (ix3 n k l)
    g0 := fun k => real_of_all a3 _ _ _ h3 (ix1 k)
    b0 := fun k => real_of_all a4 _ _ _ h4 (ix1 k)
    w1 := fun j k => real_of_all a7 _ _ _ h7 (ix2 j k)
    e1 := fun k => real_of_all a8 _ _ _ h8 (ix1 k)
    g := fun k => real_of_all a9 _ _ _ h9 (ix1 k)
    b := fun k => real_of_all a10 _ _ _ h10 (ix1 k)
    w2 := fun j k => real_of_all a11 _ _ _ h11 (ix2 j k)
    e2 := fun k => real_of_all a12 _ _ _ h12 (ix1 k)
    w3 := fun j k => real_of_all a13 _ _ _ h13 (ix2 j k)
    e3 := fun k => real_of_all a14 _ _ _ h14 (ix1 k) }
end Decode

end Cert.Pre_finite_inputs

end
-- ==== Proof.Value.Host.lean ====
/-
  What the host operations between the regions leave in the buffers the regions read: vectors written as single rows, and the
  three taps of the convolution's weights side by side.
-/
module

public import proofs.«01_k».proof.Proof.Run
public import proofs.«01_k».proof.Proof.Value.Kit
public import Idealize.ShloMosaic.Lib.StableHlo.Run

@[expose] public section

set_option maxRecDepth 16384

noncomputable section

namespace Cert.KernelIdeal.Host

open Cert.KernelIdeal.Gen Cert.Kit
open Idealize.ShloMosaic Idealize.ShloMosaic.TcCoe Idealize.ShloMosaic.StableHlo

variable (V : Valuation τ sig (Elt Ideal))

theorem v0 (k : Fin 128) : (StableHlo.after hostOps0 V (Proc.devRef .tc main_v0)) (ix2 0 k) = V (Proc.devRef .tc main_arg3) (ix1 k) := by
  after_results
  pointwise
theorem v1 (k : Fin 128) : (StableHlo.after hostOps0 V (Proc.devRef .tc main_v1)) (ix2 0 k) = V (Proc.devRef .tc main_arg4) (ix1 k) := by
  after_results
  pointwise
theorem v2 (k : Fin 256) : (StableHlo.after hostOps0 V (Proc.devRef .tc main_v2)) (ix2 0 k) = V (Proc.devRef .tc main_arg9) (ix1 k) := by
  after_results
  pointwise
theorem v3 (k : Fin 256) : (StableHlo.after hostOps0 V (Proc.devRef .tc main_v3)) (ix2 0 k) = V (Proc.devRef .tc main_arg10) (ix1 k) := by
  after_results
  pointwise
theorem v12 (k : Fin 256) : (StableHlo.after hostOps0 V (Proc.devRef .tc main_v12)) (ix2 0 k) = V (Proc.devRef .tc main_arg6) (ix1 k) := by
  after_results
  pointwise
theorem v14 (k : Fin 256) : (StableHlo.after hostOps1 V (Proc.devRef .tc main_v14)) (ix2 0 k) = V (Proc.devRef .tc main_arg8) (ix1 k) := by
  after_results
  pointwise
theorem v15 (k : Fin 256) : (StableHlo.after hostOps1 V (Proc.devRef .tc main_v15)) (ix2 0 k) = V (Proc.devRef .tc main_arg12) (ix1 k) := by
  after_results
  pointwise
theorem v17 (k : Fin 256) : (StableHlo.after hostOps2 V (Proc.devRef .tc main_v17)) (ix2 0 k) = V (Proc.devRef .tc main_arg14) (ix1 k) := by
  after_results
  pointwise
theorem v11 (o : Fin 256) (k : Fin 384) : (StableHlo.after hostOps0 V (Proc.devRef .tc main_v11)) (ix2 o k)
    = V (Proc.devRef .tc main_arg5) (ix3 o ⟨k.val % 128, by omega⟩ ⟨k.val / 128, by omega⟩) := by
  after_results
  pointwise
  have hk := k.isLt
  by_cases h1 : k.val < 128
  · rw [dif_pos h1]
    after_results_simp
    pointwise
    congr 2 <;> exact Fin.ext (by simp only [Fin.val_zero, Fin.val_one, Fin.val_two]; omega)
  · rw [dif_neg h1]
    by_cases h2 : k.val - 128 < 128
    · rw [dif_pos h2]
      after_results_simp
      pointwise
      congr 2 <;> exact Fin.ext (by simp only [Fin.val_zero, Fin.val_one, Fin.val_two]; omega)
    · rw [dif_neg h2]
      after_results_simp
      pointwise
      congr 2 <;> exact Fin.ext (by simp only [Fin.val_zero, Fin.val_one, Fin.val_two]; omega)

end Cert.KernelIdeal.Host

end
-- ==== Proof.Value.Front.lean ====
/-
  The first region's values: the products of the raw rows, the channel sums of the input and of its squares, and the channel
  sums of the products and of their squares.
-/
module

public import proofs.«01_k».proof.Proof.Front
public import proofs.«01_k».proof.Proof.Value.Kit
public import Idealize.ShloMosaic.Lib.Pipeline.CanonAppend
public import Idealize.ShloMosaic.Lib.Pipeline.ValueKit

@[expose] public section

set_option maxRecDepth 16384

noncomputable section

namespace Cert.KernelIdeal.Front

open Cert.KernelIdeal.Gen Cert.Kit
open Idealize.ShloMosaic Idealize.ShloMosaic.TcCoe

/-! ## The matrix that sums a channel's rows -/

/-- The words' quotient by sixteen, rounded down. -/
theorem quot_word : ∀ p : Fin 2048, Scalar.select
    (IntOp.andi
      (IntOp.cmpi .ne
        (IntOp.subi (BitVec.setWidth 32 (IntOp.cmpi .sgt (BitVec.ofNat 32 p.val) 0#32)) (BitVec.setWidth 32 (IntOp.cmpi .slt (BitVec.ofNat 32 p.val) 0#32)))
        (Scalar.subi (Scalar.extui (Scalar.cmpi .sgt 16#32 0#32)) (Scalar.extui (Scalar.cmpi .slt 16#32 0#32))))
      (IntOp.cmpi .ne (IntOp.remsi .vector (BitVec.ofNat 32 p.val) 16#32) 0#32))
    (IntOp.subi (IntOp.divsi .vector (BitVec.ofNat 32 p.val) 16#32) 1#32) (IntOp.divsi .vector (BitVec.ofNat 32 p.val) 16#32)
      = BitVec.ofNat 32 (p.val / 16) := by decide +kernel

theorem ind_coe (c : Fin 128) (p : Fin 2048) :
    k0_pay11 (F := Ideal) (ix2 c p) = (((if p.val / 16 = c.val then 1 else 0 : ℝ)) : EReal) := by
  pointwise [k0_pay11]
  rw [quot_word]
  by_cases e : p.val / 16 = c.val
  · rw [e, if_pos rfl, show IntOp.cmpi .eq (BitVec.ofNat 32 c.val) (BitVec.ofNat 32 c.val) = 1#1 by simp [IntOp.cmpi]]
    show (((1#32 : BitVec 32).toInt : ℝ) : EReal) = _
    norm_num
  · have e' : BitVec.ofNat 32 c.val ≠ BitVec.ofNat 32 (p.val / 16) := fun h => e (by
      have := congrArg BitVec.toNat h
      simp only [BitVec.toNat_ofNat] at this
      have := c.isLt; have := p.isLt
      omega)
    rw [if_neg e, show IntOp.cmpi .eq (BitVec.ofNat 32 c.val) (BitVec.ofNat 32 (p.val / 16)) = 0#1 by
      simp only [IntOp.cmpi, beq_eq_false_iff_ne.mpr e']; rfl]
    show (((0#32 : BitVec 32).toInt : ℝ) : EReal) = _
    norm_num

section Block
variable {x0 : Vec Ideal S4x128x2048 .f32} {x1 : Vec Ideal S256x128 .f32}
  {P : Fin 4 → Fin 128 → Fin 2048 → ℝ} {w : Fin 256 → Fin 128 → ℝ}

/-- The product of row `q` of the block's batch element `n` with the weights of column `j`. -/
def prod (P : Fin 4 → Fin 128 → Fin 2048 → ℝ) (w : Fin 256 → Fin 128 → ℝ) (n : Fin 4) (q : Fin 2048) (j : Fin 256) : ℝ :=
  ∑ k : Fin 128, P n ⟨q.val / 16, by omega⟩ ⟨q.val % 16 * 128 + k.val, by omega⟩ * w j k

variable (e0 : ∀ n c l, x0 (ix3 n c l) = ((P n c l : ℝ) : EReal)) (e1 : ∀ j k, x1 (ix2 j k) = ((w j k : ℝ) : EReal))
include e0

theorem sum_coe0 (c : Fin 128) : k0_pay8 (View.ld x0 rX) (ix2 c 0) = ((∑ n, ∑ l, P n c l : ℝ) : EReal) := by
  pointwise [k0_pay8, reduceAdd_a02]
  simp only [e0, sum_coe]
theorem sq_coe0 (c : Fin 128) : k0_pay9 (View.ld x0 rX) (ix2 c 0) = ((∑ n, ∑ l, P n c l * P n c l : ℝ) : EReal) := by
  pointwise [k0_pay9, reduceAdd_a02]
  simp only [e0, ← EReal.coe_mul, sum_coe]

include e1

theorem prod0_coe (q : Fin 2048) (j : Fin 256) : k0_pay15 (wts x1) (chunk0 x0) (ix2 q j) = ((prod P w 0 q j : ℝ) : EReal) := by
  pointwise [k0_pay15, wts, chunk0, k0_pay10, k0_pay14]
  simp only [e0, e1, ← EReal.coe_mul, sum_coe]
  rfl
theorem prod1_coe (q : Fin 2048) (j : Fin 256) : k0_pay17 (View.ld x0 rX) (wts x1) (ix2 q j) = ((prod P w 1 q j : ℝ) : EReal) := by
  pointwise [k0_pay17, wts, k0_pay10]
  simp only [e0, e1, ← EReal.coe_mul, sum_coe]
  rfl
theorem prod2_coe (q : Fin 2048) (j : Fin 256) : k0_pay19 (View.ld x0 rX) (wts x1) (ix2 q j) = ((prod P w 2 q j : ℝ) : EReal) := by
  pointwise [k0_pay19, wts, k0_pay10]
  simp only [e0, e1, ← EReal.coe_mul, sum_coe]
  rfl
theorem prod3_coe (q : Fin 2048) (j : Fin 256) : prod3 x0 x1 (ix2 q j) = ((prod P w 3 q j : ℝ) : EReal) := by
  pointwise [prod3, k0_pay23, wts, k0_pay10]
  simp only [e0, e1, ← EReal.coe_mul, sum_coe]
  rfl

/-- A channel's sum over the block's rows. -/
def chanSum (f : Fin 4 → Fin 2048 → ℝ) (c : Fin 128) : ℝ := ∑ n, ∑ q : Fin 2048, if q.val / 16 = c.val then f n q else 0

omit e0 e1 in
theorem chanSum_eq (f : Fin 4 → Fin 2048 → ℝ) (c : Fin 128) : chanSum f c
    = ((∑ q : Fin 2048, (if q.val / 16 = c.val then 1 else 0) * f 0 q) + (∑ q : Fin 2048, (if q.val / 16 = c.val then 1 else 0) * f 1 q)
      + ∑ q : Fin 2048, (if q.val / 16 = c.val then 1 else 0) * f 2 q) + ∑ q : Fin 2048, (if q.val / 16 = c.val then 1 else 0) * f 3 q := by
  unfold chanSum
  simp only [Fin.sum_univ_four, ite_mul, one_mul, zero_mul]

theorem sumU_coe (c : Fin 128) (j : Fin 256) : k0_pay2 k0_pay11 (sumU x0 x1) (prod3 x0 x1) (ix2 c j)
    = ((chanSum (fun n q => prod P w n q j) c : ℝ) : EReal) := by
  pointwise [k0_pay2, sumU, k0_pay21, k0_pay12, k0_pay16, k0_pay18, k0_pay20, k0_pay1]
  simp only [ind_coe, prod0_coe e0 e1, prod1_coe e0 e1, prod2_coe e0 e1, prod3_coe e0 e1, ← EReal.coe_mul, sum_coe, ← EReal.coe_add,
    chanSum_eq]

theorem sumUU_coe (c : Fin 128) (j : Fin 256) : k0_pay3 k0_pay11 (sumUU x0 x1) (prod3 x0 x1) (ix2 c j)
    = ((chanSum (fun n q => prod P w n q j * prod P w n q j) c : ℝ) : EReal) := by
  pointwise [k0_pay3, sumUU, k0_pay22, k0_pay13]
  simp only [ind_coe, prod0_coe e0 e1, prod1_coe e0 e1, prod2_coe e0 e1, prod3_coe e0 e1, ← EReal.coe_mul, sum_coe, ← EReal.coe_add,
    chanSum_eq]

theorem outU_coe (r : Fin 8192) (j : Fin 256) :
    outU x0 x1 (ix2 r j) = ((prod P w ⟨r.val / 2048, by omega⟩ ⟨r.val % 2048, by omega⟩ j : ℝ) : EReal) := by
  have key : ∀ (n : Fin 4) (q : Fin 2048) (j' : Fin 256), r.val = n.val * 2048 + q.val → j.val = j'.val →
      prod P w n q j' = prod P w ⟨r.val / 2048, by omega⟩ ⟨r.val % 2048, by omega⟩ j := by
    intro n q j' e e'
    obtain rfl : j = j' := Fin.ext e'
    congr 1 <;> exact Fin.ext (by simp only []; omega)
  canon_tiles x h using coverY ..
  all_goals idx_vars x
  · pointwise [k0_pay1]; rw [prod3_coe e0 e1]; exact congrArg _ (key 3 _ _ h0 h1)
  · pointwise [k0_pay20]; rw [prod2_coe e0 e1]; exact congrArg _ (key 2 _ _ h0 h1)
  · pointwise [k0_pay18]; rw [prod1_coe e0 e1]; exact congrArg _ (key 1 _ _ h0 h1)
  · pointwise [k0_pay16]; rw [prod0_coe e0 e1]; exact congrArg _ (key 0 _ _ (h0.trans (Nat.zero_add _).symm) h1)

omit e1 in
theorem firstS_coe (c : Fin 128) : firstS x0 (ix2 c 0) = ((∑ n, ∑ l, P n c l : ℝ) : EReal) := by
  unfold firstS; rw [View.canon_cons_unit_lit _ _ _ (by decide)]; exact sum_coe0 e0 c
omit e1 in
theorem firstQ_coe (c : Fin 128) : firstQ x0 (ix2 c 0) = ((∑ n, ∑ l, P n c l * P n c l : ℝ) : EReal) := by
  unfold firstQ; rw [View.canon_cons_unit_lit _ _ _ (by decide)]; exact sq_coe0 e0 c
theorem firstU_coe (c : Fin 128) (j : Fin 256) :
    firstU x0 x1 (ix2 c j) = ((chanSum (fun n q => prod P w n q j) c : ℝ) : EReal) := by
  unfold firstU; rw [View.canon_cons_unit_lit _ _ _ (by decide)]; exact sumU_coe e0 e1 c j
theorem firstUU_coe (c : Fin 128) (j : Fin 256) :
    firstUU x0 x1 (ix2 c j) = ((chanSum (fun n q => prod P w n q j * prod P w n q j) c : ℝ) : EReal) := by
  unfold firstUU; rw [View.canon_cons_unit_lit _ _ _ (by decide)]; exact sumUU_coe e0 e1 c j

omit e1 in
theorem nextS_coe {x3 : Vec Ideal S128x1 .f32} (c : Fin 128) {v : ℝ} (h : x3 (ix2 c 0) = (v : EReal)) :
    nextS x0 x3 (ix2 c 0) = ((v + ∑ n, ∑ l, P n c l : ℝ) : EReal) := by
  unfold nextS; rw [View.canon_cons_unit_lit _ _ _ (by decide)]
  pointwise [k0_pay4]
  rw [sum_coe0 e0 c, h, ← EReal.coe_add]
omit e1 in
theorem nextQ_coe {x4 : Vec Ideal S128x1 .f32} (c : Fin 128) {v : ℝ} (h : x4 (ix2 c 0) = (v : EReal)) :
    nextQ x0 x4 (ix2 c 0) = ((v + ∑ n, ∑ l, P n c l * P n c l : ℝ) : EReal) := by
  unfold nextQ; rw [View.canon_cons_unit_lit _ _ _ (by decide)]
  pointwise [k0_pay5]
  rw [sq_coe0 e0 c, h, ← EReal.coe_add]
theorem nextU_coe {x5 : Vec Ideal S128x256 .f32} (c : Fin 128) (j : Fin 256) {v : ℝ} (h : x5 (ix2 c j) = (v : EReal)) :
    nextU x0 x1 x5 (ix2 c j) = ((v + chanSum (fun n q => prod P w n q j) c : ℝ) : EReal) := by
  unfold nextU; rw [View.canon_cons_unit_lit _ _ _ (by decide)]
  pointwise [k0_pay6]
  rw [sumU_coe e0 e1, h, ← EReal.coe_add]
theorem nextUU_coe {x6 : Vec Ideal S128x256 .f32} (c : Fin 128) (j : Fin 256) {v : ℝ} (h : x6 (ix2 c j) = (v : EReal)) :
    nextUU x0 x1 x6 (ix2 c j) = ((v + chanSum (fun n q => prod P w n q j * prod P w n q j) c : ℝ) : EReal) := by
  unfold nextUU; rw [View.canon_cons_unit_lit _ _ _ (by decide)]
  pointwise [k0_pay7]
  rw [sumUU_coe e0 e1, h, ← EReal.coe_add]

end Block

/-! ## The arrays -/

section Points
variable (X : Fin 16 → Fin 128 → Fin 2048 → ℝ) (w : Fin 256 → Fin 128 → ℝ)

/-- The input's batch elements at grid point `t`. -/
def part (t : Fin 4) (n : Fin 4) (k : Fin 128) (l : Fin 2048) : ℝ := X ⟨t.val * 4 + n.val, by omega⟩ k l

theorem raw_at (t : Fin 4) (n : Fin 4) (q : Fin 2048) (r : Fin 8192) (e : r.val = n.val * 2048 + q.val) (j : Fin 256) :
    Model.raw X w (Model.at4 t r) j = prod (part X t) w n q j := by
  unfold Model.raw Model.rows prod part
  refine Finset.sum_congr rfl fun k _ => congrArg (· * w j k) ?_
  congr 1 <;> exact Fin.ext (by simp only [Model.bat, Model.chan, Model.pos, Model.at4]; omega)

theorem sum_chanSum (g : Fin 32768 → ℝ) (f : Fin 4 → Fin 4 → Fin 2048 → ℝ)
    (hg : ∀ (t n : Fin 4) (q : Fin 2048) (r : Fin 8192), r.val = n.val * 2048 + q.val → g (Model.at4 t r) = f t n q) (k : Fin 128) :
    ∑ t, chanSum (f t) k = ∑ r, if Model.chan r = k then g r else 0 := by
  rw [← Model.sum_at4]
  refine Finset.sum_congr rfl fun t _ => ?_
  rw [← Model.sum_runs (m := 4) (n := 2048) rfl]
  refine Finset.sum_congr rfl fun n _ => Finset.sum_congr rfl fun q _ => ?_
  rw [hg t n q _ rfl]
  refine if_congr ?_ rfl rfl
  rw [Fin.ext_iff]
  simp only [Model.chan, Model.at4]
  omega

theorem sum_seg (k : Fin 128) (j : Fin 256) :
    ∑ t, chanSum (fun n q => prod (part X t) w n q j) k = Model.seg X w k j :=
  sum_chanSum (fun r => Model.raw X w r j) (fun t n q => prod (part X t) w n q j) (fun t n q r e => raw_at X w t n q r e j) k
theorem sum_segSq (k : Fin 128) (j : Fin 256) :
    ∑ t, chanSum (fun n q => prod (part X t) w n q j * prod (part X t) w n q j) k = Model.segSq X w k j :=
  sum_chanSum (fun r => Model.raw X w r j * Model.raw X w r j)
    (fun t n q => prod (part X t) w n q j * prod (part X t) w n q j) (fun t n q r e => by rw [raw_at X w t n q r e j]) k
theorem sum_sum0 (k : Fin 128) : ∑ t, ∑ n, ∑ l, part X t n k l = Model.sum0 X k :=
  Model.sum_runs (m := 4) (n := 4) rfl fun b => ∑ l, X b k l
theorem sum_sq0 (k : Fin 128) : ∑ t, ∑ n, ∑ l, part X t n k l * part X t n k l = Model.sq0 X k :=
  Model.sum_runs (m := 4) (n := 4) rfl fun b => ∑ l, X b k l * X b k l

/-- The running sum of four numbers. -/
def run (f : Fin 4 → ℝ) : (n : ℕ) → n < 4 → ℝ
  | 0, h => f ⟨0, h⟩
  | n + 1, h => run f n (Nat.lt_of_succ_lt h) + f ⟨n + 1, h⟩

theorem run_zero (f : Fin 4 → ℝ) (h : 0 < 4) : run f 0 h = f ⟨0, h⟩ := rfl
theorem run_succ (f : Fin 4 → ℝ) (n : ℕ) (h : n + 1 < 4) :
    run f (n + 1) h = run f n (Nat.lt_of_succ_lt h) + f ⟨n + 1, h⟩ := rfl
theorem run_last (f : Fin 4 → ℝ) (h : 3 < 4) : run f 3 h = ∑ t, f t := by
  rw [Fin.sum_univ_four]; rfl

end Points

theorem idx0 : ∀ t : Fin cfg0.N, win0_0.index t = ![t.val, 0, 0] :=
  (by decide +kernel : ∀ t : Fin grid0.N, win0_0.index t = ![t.val, 0, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0] :=
  (by decide +kernel : ∀ t : Fin grid0.N, win0_6.index t = ![0, 0])

variable (V : (c : Dev nD) → (b : Ref sig .tc) → Buf (Elt Ideal) ((c : Thread nD τ).loc b)) (c : Dev nD)

/-- A grid point's number. -/
def pt (t : Fin cfg0.N) : Fin 4 := ⟨t.val, lt_of_lt_of_eq t.isLt N_0⟩

theorem blk0 (t : Fin cfg0.N) (n : Fin 4) (k : Fin 128) (l : Fin 2048) :
    blk V c 0 t (ix3 n k l) = V c main_arg0 (ix3 ⟨(pt t).val * 4 + n.val, by omega⟩ k l) := by
  blk_simp [blk]; congr 1; blk_ext [idx0]; rfl
theorem blk1 (t : Fin cfg0.N) (j : Fin 256) (k : Fin 128) : blk V c 1 t (ix2 j k) = V c main_arg7 (ix2 j k) := by
  blk_simp [blk]; congr 1; blk_ext [idx1]
theorem emb2 (t : Fin cfg0.N) (r : Fin 8192) (j : Fin 256) :
    (win0_2.blk t).view.emb (ix2 r j) = ix2 (Model.at4 (pt t) r) j := by blk_ext [idx2]; rfl
theorem emb3 (t : Fin cfg0.N) (k : Fin 128) : (win0_3.blk t).view.emb (ix2 k 0) = ix2 k 0 := by blk_ext [idx3]
theorem emb4 (t : Fin cfg0.N) (k : Fin 128) : (win0_4.blk t).view.emb (ix2 k 0) = ix2 k 0 := by blk_ext [idx4]
theorem emb5 (t : Fin cfg0.N) (k : Fin 128) (j : Fin 256) : (win0_5.blk t).view.emb (ix2 k j) = ix2 k j := by
  blk_ext [idx5]
theorem emb6 (t : Fin cfg0.N) (k : Fin 128) (j : Fin 256) : (win0_6.blk t).view.emb (ix2 k j) = ix2 k j := by
  blk_ext [idx6]

section Arrays
attribute [local irreducible] sums run chanSum prod firstS firstQ firstU firstUU nextS nextQ nextU nextUU

variable (X : Fin 16 → Fin 128 → Fin 2048 → ℝ) (w : Fin 256 → Fin 128 → ℝ)

/-- What the region needs of the buffers it reads. -/
structure Entry : Prop where
  x : ∀ b k l, V c main_arg0 (ix3 b k l) = ((X b k l : ℝ) : EReal)
  w : ∀ j k, V c main_arg7 (ix2 j k) = ((w j k : ℝ) : EReal)

variable (h : Entry V c X w)
include h

theorem real0 (t : Fin cfg0.N) (n : Fin 4) (k : Fin 128) (l : Fin 2048) :
    blk V c 0 t (ix3 n k l) = ((part X (pt t) n k l : ℝ) : EReal) := (blk0 V c t n k l).trans (h.x _ _ _)
theorem real1 (t : Fin cfg0.N) (j : Fin 256) (k : Fin 128) : blk V c 1 t (ix2 j k) = ((w j k : ℝ) : EReal) :=
  (blk1 V c t j k).trans (h.w j k)

theorem block2 (t : Fin cfg0.N) (r : Fin 8192) (j : Fin 256) :
    (dat V c).after 2 t (ix2 r j) = ((Model.raw X w (Model.at4 (pt t) r) j : ℝ) : EReal) := by
  rw [after_2, raw_at X w (pt t) ⟨r.val / 2048, by omega⟩ ⟨r.val % 2048, by omega⟩ r (by simp only []; omega)]
  exact outU_coe (real0 V c X w h t) (real1 V c X w h t) r j

/-- The running sums are the running sums of the points' own. -/
theorem sums_coe : ∀ (n : ℕ) (hn : n < cfg0.N),
    (∀ k, (sums V c n hn).1 (ix2 k 0) = ((run (fun t => ∑ n, ∑ l, part X t n k l) n hn : ℝ) : EReal))
    ∧ (∀ k, (sums V c n hn).2.1 (ix2 k 0) = ((run (fun t => ∑ n, ∑ l, part X t n k l * part X t n k l) n hn : ℝ) : EReal))
    ∧ (∀ k j, (sums V c n hn).2.2.1 (ix2 k j) = ((run (fun t => chanSum (fun n q => prod (part X t) w n q j) k) n hn : ℝ) : EReal))
    ∧ (∀ k j, (sums V c n hn).2.2.2 (ix2 k j)
        = ((run (fun t => chanSum (fun n q => prod (part X t) w n q j * prod (part X t) w n q j) k) n hn : ℝ) : EReal))
  | 0, hn => by
    rw [sums_zero]
    refine ⟨fun k => ?_, fun k => ?_, fun k j => ?_, fun k j => ?_⟩
    · exact (firstS_coe (real0 V c X w h ⟨0, hn⟩) k).trans
        (congrArg Real.toEReal (run_zero (fun t => ∑ n, ∑ l, part X t n k l) hn)).symm
    · exact (firstQ_coe (real0 V c X w h ⟨0, hn⟩) k).trans
        (congrArg Real.toEReal (run_zero (fun t => ∑ n, ∑ l, part X t n k l * part X t n k l) hn)).symm
    · exact (firstU_coe (real0 V c X w h ⟨0, hn⟩) (real1 V c X w h ⟨0, hn⟩) k j).trans
        (congrArg Real.toEReal (run_zero (fun t => chanSum (fun n q => prod (part X t) w n q j) k) hn)).symm
    · exact (firstUU_coe (real0 V c X w h ⟨0, hn⟩) (real1 V c X w h ⟨0, hn⟩) k j).trans
        (congrArg Real.toEReal (run_zero (fun t => chanSum (fun n q => prod (part X t) w n q j * prod (part X t) w n q j) k) hn)).symm
  | n + 1, hn => by
    obtain ⟨hs, hq, hu, hv⟩ := sums_coe n (Nat.lt_of_succ_lt hn)
    rw [sums_succ]
    refine ⟨fun k => ?_, fun k => ?_, fun k j => ?_, fun k j => ?_⟩
    · exact (nextS_coe (real0 V c X w h ⟨n + 1, hn⟩) k (hs k)).trans (congrArg Real.toEReal (run_succ _ n hn)).symm
    · exact (nextQ_coe (real0 V c X w h ⟨n + 1, hn⟩) k (hq k)).trans (congrArg Real.toEReal (run_succ _ n hn)).symm
    · exact (nextU_coe (real0 V c X w h ⟨n + 1, hn⟩) (real1 V c X w h ⟨n + 1, hn⟩) k j (hu k j)).trans
        (congrArg Real.toEReal (run_succ _ n hn)).symm
    · exact (nextUU_coe (real0 V c X w h ⟨n + 1, hn⟩) (real1 V c X w h ⟨n + 1, hn⟩) k j (hv k j)).trans
        (congrArg Real.toEReal (run_succ _ n hn)).symm

/-- The sums after the last point. -/
theorem last (t : Fin cfg0.N) (ht : t.val = 3) :
    (∀ k, (sums V c t.val t.isLt).1 (ix2 k 0) = ((Model.sum0 X k : ℝ) : EReal))
    ∧ (∀ k, (sums V c t.val t.isLt).2.1 (ix2 k 0) = ((Model.sq0 X k : ℝ) : EReal))
    ∧ (∀ k j, (sums V c t.val t.isLt).2.2.1 (ix2 k j) = ((Model.seg X w k j : ℝ) : EReal))
    ∧ (∀ k j, (sums V c t.val t.isLt).2.2.2 (ix2 k j) = ((Model.segSq X w k j : ℝ) : EReal)) := by
  obtain ⟨n, hn⟩ := t
  obtain rfl : n = 3 := ht
  obtain ⟨hs, hq, hu, hv⟩ := sums_coe V c X w h 3 hn
  refine ⟨fun k => (hs k).trans ?_, fun k => (hq k).trans ?_, fun k j => (hu k j).trans ?_, fun k j => (hv k j).trans ?_⟩
  · exact congrArg _ ((run_last _ hn).trans (sum_sum0 X k))
  · exact congrArg _ ((run_last _ hn).trans (sum_sq0 X k))
  · exact congrArg _ ((run_last _ hn).trans (sum_seg X w k j))
  · exact congrArg _ ((run_last _ hn).trans (sum_segSq X w k j))

theorem arr2 : (dat V c).arrAt 2 cfg0.N = mat (Model.raw X w) := by
  refine (dat V c).arrAt_eq_of_covers 2 (mat (Model.raw X w)) (by decide +kernel) fun t hf y => ?_
  blk_simp
  idx_vars y
  exact (block2 V c X w h t _ _).trans (congrArg (mat (Model.raw X w)) (emb2 t _ _)).symm

end Arrays

theorem flushes : ∀ (w : Fin cfg0.W) (t : Fin cfg0.N), 3 ≤ w.val → (cfg0.win w).flush t = true → t.val = 3 := by decide +kernel

section Arrays
variable (X : Fin 16 → Fin 128 → Fin 2048 → ℝ) (w : Fin 256 → Fin 128 → ℝ) (h : Entry V c X w)
include h

theorem arr3 : (dat V c).arrAt 3 cfg0.N = mat (fun k (_ : Fin 1) => Model.sum0 X k) := by
  refine (dat V c).arrAt_eq_of_covers 3 (mat (fun k (_ : Fin 1) => Model.sum0 X k)) (by decide +kernel) fun t hf y => ?_
  have l := last V c X w h t (flushes 3 t (by decide) hf)
  blk_simp
  idx_vars y
  obtain rfl := Subsingleton.elim y1 0
  rw [after_3]
  exact (l.1 _).trans (congrArg (mat (fun k (_ : Fin 1) => Model.sum0 X k)) (emb3 t _)).symm

theorem arr4 : (dat V c).arrAt 4 cfg0.N = mat (fun k (_ : Fin 1) => Model.sq0 X k) := by
  refine (dat V c).arrAt_eq_of_covers 4 (mat (fun k (_ : Fin 1) => Model.sq0 X k)) (by decide +kernel) fun t hf y => ?_
  have l := last V c X w h t (flushes 4 t (by decide) hf)
  blk_simp
  idx_vars y
  obtain rfl := Subsingleton.elim y1 0
  rw [after_4]
  exact (l.2.1 _).trans (congrArg (mat (fun k (_ : Fin 1) => Model.sq0 X k)) (emb4 t _)).symm

theorem arr5 : (dat V c).arrAt 5 cfg0.N = mat (Model.seg X w) := by
  refine (dat V c).arrAt_eq_of_covers 5 (mat (Model.seg X w)) (by decide +kernel) fun t hf y => ?_
  have l := last V c X w h t (flushes 5 t (by decide) hf)
  blk_simp
  idx_vars y
  rw [after_5]
  exact (l.2.2.1 _ _).trans (congrArg (mat (Model.seg X w)) (emb5 t _ _)).symm

theorem arr6 : (dat V c).arrAt 6 cfg0.N = mat (Model.segSq X w) := by
  refine (dat V c).arrAt_eq_of_covers 6 (mat (Model.segSq X w)) (by decide +kernel) fun t hf y => ?_
  have l := last V c X w h t (flushes 6 t (by decide) hf)
  blk_simp
  idx_vars y
  rw [after_6]
  exact (l.2.2.2 _ _).trans (congrArg (mat (Model.segSq X w)) (emb6 t _ _)).symm

end Arrays

end Cert.KernelIdeal.Front
end
-- ==== Proof.Value.Mid1.lean ====
/-
  The second region's values: the normalised first layer through the second weights, and its column sums. The first layer's
  moments come from sums over each channel's rows.
-/
module

public import proofs.«01_k».proof.Proof.Mid1
public import proofs.«01_k».proof.Proof.Value.Kit
public import Idealize.ShloMosaic.Lib.Pipeline.ValueKit

@[expose] public section

set_option maxRecDepth 16384

noncomputable section

namespace Cert.KernelIdeal.Mid1

open Cert.KernelIdeal.Gen Cert.Kit
open Idealize.ShloMosaic Idealize.ShloMosaic.TcCoe

section Block
variable {x0 : Vec Ideal S8192x256 .bf16} {x1 x2 : Vec Ideal S128x1 .f32} {x3 x4 : Vec Ideal S1x128 .f32}
  {x5 x6 : Vec Ideal S128x256 .f32} {x7 : Vec Ideal S256x128 .f32} {x8 x9 x10 : Vec Ideal S1x256 .f32}
  {x11 : Vec Ideal S256x256 .f32} {x12 : Vec Ideal S1x256 .f32}

/-- The real numbers that a block's buffers hold. -/
structure Reals where
  u : Fin 8192 → Fin 256 → ℝ
  s0 : Fin 128 → ℝ
  q0 : Fin 128 → ℝ
  g0 : Fin 128 → ℝ
  b0 : Fin 128 → ℝ
  u1 : Fin 128 → Fin 256 → ℝ
  u2 : Fin 128 → Fin 256 → ℝ
  w1 : Fin 256 → Fin 128 → ℝ
  b1 : Fin 256 → ℝ
  g1 : Fin 256 → ℝ
  be1 : Fin 256 → ℝ
  w2 : Fin 256 → Fin 256 → ℝ
  b2 : Fin 256 → ℝ

namespace Reals
variable (R : Reals)
/-- The first scale. -/
def a (c : Fin 128) : ℝ := Model.scale (R.s0 c) (R.q0 c) (R.g0 c)
/-- The first shift. -/
def e (c : Fin 128) : ℝ := Model.shift (R.s0 c) (R.q0 c) (R.g0 c) (R.b0 c)
/-- What the shift and the bias add to a channel's products. -/
def d (c : Fin 128) (j : Fin 256) : ℝ := Model.off R.w1 R.e R.b1 c j
/-- The first layer's column sums. -/
def s1 (j : Fin 256) : ℝ := (∑ c, R.a c * R.u1 c j) + 256 * ∑ c, R.d c j
/-- The column sums of its squares. -/
def q1 (j : Fin 256) : ℝ :=
  ∑ c, (R.a c * R.a c * R.u2 c j + 2 * R.a c * R.d c j * R.u1 c j + 256 * R.d c j * R.d c j)
/-- The second scale. -/
def sc (j : Fin 256) : ℝ := Model.scale (R.s1 j) (R.q1 j) (R.g1 j)
/-- The second shift. -/
def sh (j : Fin 256) : ℝ := Model.shift (R.s1 j) (R.q1 j) (R.g1 j) (R.be1 j)
/-- A block row's channel. -/
def ch (r : Fin 8192) : Fin 128 := ⟨r.val / 16 % 128, by omega⟩
/-- A row of the block after the layer. -/
def row (r : Fin 8192) (j : Fin 256) : ℝ :=
  (∑ k, max (R.u r k * (R.a (ch r) * R.sc k) + (R.d (ch r) k * R.sc k + R.sh k)) 0 * R.w2 j k) + R.b2 j
end Reals

/-- What a block's buffers hold, and that no variance is negative. -/
structure Holds (R : Reals) (x0 : Vec Ideal S8192x256 .bf16) (x1 x2 : Vec Ideal S128x1 .f32) (x3 x4 : Vec Ideal S1x128 .f32)
    (x5 x6 : Vec Ideal S128x256 .f32) (x7 : Vec Ideal S256x128 .f32) (x8 x9 x10 : Vec Ideal S1x256 .f32)
    (x11 : Vec Ideal S256x256 .f32) (x12 : Vec Ideal S1x256 .f32) : Prop where
  h0 : ∀ r k, x0 (ix2 r k) = ((R.u r k : ℝ) : EReal)
  h1 : ∀ c, x1 (ix2 c 0) = ((R.s0 c : ℝ) : EReal)
  h2 : ∀ c, x2 (ix2 c 0) = ((R.q0 c : ℝ) : EReal)
  h3 : ∀ c, x3 (ix2 0 c) = ((R.g0 c : ℝ) : EReal)
  h4 : ∀ c, x4 (ix2 0 c) = ((R.b0 c : ℝ) : EReal)
  h5 : ∀ c j, x5 (ix2 c j) = ((R.u1 c j : ℝ) : EReal)
  h6 : ∀ c j, x6 (ix2 c j) = ((R.u2 c j : ℝ) : EReal)
  h7 : ∀ j k, x7 (ix2 j k) = ((R.w1 j k : ℝ) : EReal)
  h8 : ∀ j, x8 (ix2 0 j) = ((R.b1 j : ℝ) : EReal)
  h9 : ∀ j, x9 (ix2 0 j) = ((R.g1 j : ℝ) : EReal)
  h10 : ∀ j, x10 (ix2 0 j) = ((R.be1 j : ℝ) : EReal)
  h11 : ∀ j k, x11 (ix2 j k) = ((R.w2 j k : ℝ) : EReal)
  h12 : ∀ j, x12 (ix2 0 j) = ((R.b2 j : ℝ) : EReal)
  r0 : ∀ c, 0 < Model.rad (R.s0 c) (R.q0 c)
  r1 : ∀ j, 0 < Model.rad (R.s1 j) (R.q1 j)

variable {R : Reals} (h : Holds R x0 x1 x2 x3 x4 x5 x6 x7 x8 x9 x10 x11 x12)
include h

theorem scale0_coe (c : Fin 128) : scale0 x1 x2 x3 (ix2 c 0) = ((R.a c : ℝ) : EReal) := by
  pointwise [scale0, k1_pay6, k1_pay5]
  simp only [h.h1, h.h2, h.h3, lit_mean, lit_eps, ← EReal.coe_mul, ← EReal.coe_sub, ← EReal.coe_add, scale_coe _ (h.r0 _)]
  rfl

theorem shift1_coe (c : Fin 128) (j : Fin 256) : shift1 x1 x2 x3 x4 x7 x8 (ix2 c j) = ((R.d c j : ℝ) : EReal) := by
  pointwise [shift1, k1_pay7, k1_pay6, k1_pay5]
  simp only [h.h1, h.h2, h.h3, h.h4, h.h7, h.h8, lit_mean, lit_eps, sum_coe, ← EReal.coe_mul, ← EReal.coe_sub, ← EReal.coe_add,
    scale_coe _ (h.r0 _)]
  rfl

theorem linear1_coe (j : Fin 256) : linear1 x1 x2 x3 x5 (ix2 0 j) = ((∑ c, R.a c * R.u1 c j : ℝ) : EReal) := by
  have e : ∀ c, k1_pay6 (View.ld x1 rC) (View.ld x2 rC) (View.ld x3 rG) (ix2 c 0) = ((R.a c : ℝ) : EReal) := scale0_coe h
  pointwise [linear1, k1_pay8]
  simp only [e, h.h5, ← EReal.coe_mul, sum_coe]

theorem mean_coe (j : Fin 256) : k1_pay9 (shift1 x1 x2 x3 x4 x7 x8) (linear1 x1 x2 x3 x5) (ix2 0 j)
    = ((R.s1 j * (1 / 32768) : ℝ) : EReal) := by
  pointwise [k1_pay9]
  simp only [shift1_coe h, linear1_coe h, lit_mean, lit_256, sum_coe, ← EReal.coe_mul, ← EReal.coe_add]
  rfl

theorem scale1_coe (j : Fin 256) :
    k1_pay10 (scale0 x1 x2 x3) (shift1 x1 x2 x3 x4 x7 x8) (linear1 x1 x2 x3 x5) (View.ld x6 rU) (View.ld x5 rU) (View.ld x9 rV) (ix2 0 j)
      = ((R.sc j : ℝ) : EReal) := by
  pointwise [k1_pay10]
  simp only [scale0_coe h, shift1_coe h, mean_coe h, h.h5, h.h6, h.h9, lit_mean, lit_eps, lit_256, lit_2, ← EReal.coe_mul,
    ← EReal.coe_add, sum_coe, ← EReal.coe_sub]
  exact scale_coe _ (h.r1 j)

theorem value_coe (r : Fin 8192) (j : Fin 256) :
    k1_pay1 (shift1 x1 x2 x3 x4 x7 x8) (shift2 x1 x2 x3 x4 x5 x6 x7 x8 x9 x10) (scale2a x1 x2 x3 x4 x5 x6 x7 x8 x9)
      (scale2 x1 x2 x3 x4 x5 x6 x7 x8 x9) (View.ld x0 rY) (View.ld x11 rW) (View.ld x12 rV) (ix2 r j) = ((R.row r j : ℝ) : EReal) := by
  pointwise [k1_pay1, shift2, scale2a, scale2, k1_pay11, k1_pay12, k1_pay13]
  simp only [scale0_coe h, shift1_coe h, mean_coe h, scale1_coe h, h.h0, h.h10, h.h11, h.h12, ← EReal.coe_mul,
    ← EReal.coe_add, ← EReal.coe_sub, max_zero_coe, sum_coe]
  rfl

theorem outY_coe (r : Fin 8192) (j : Fin 256) :
    outY x0 x1 x2 x3 x4 x5 x6 x7 x8 x9 x10 x11 x12 (ix2 r j) = ((R.row r j : ℝ) : EReal) := by
  unfold outY
  rw [View.canon_cons_unit_lit _ _ _ (by decide)]
  pointwise [k1_pay2]
  exact value_coe h r j

theorem outS_coe (j : Fin 256) :
    outS x0 x1 x2 x3 x4 x5 x6 x7 x8 x9 x10 x11 x12 (ix3 0 0 j) = ((∑ r, R.row r j : ℝ) : EReal) := by
  unfold outS
  rw [View.canon_cons_unit_lit _ _ _ (by decide)]
  pointwise [k1_pay3]
  simp only [value_coe h, sum_coe]

theorem outQ_coe (j : Fin 256) :
    outQ x0 x1 x2 x3 x4 x5 x6 x7 x8 x9 x10 x11 x12 (ix3 0 0 j) = ((∑ r, R.row r j * R.row r j : ℝ) : EReal) := by
  unfold outQ
  rw [View.canon_cons_unit_lit _ _ _ (by decide)]
  pointwise [k1_pay4]
  simp only [value_coe h, ← EReal.coe_mul, sum_coe]

end Block

/-! ## The arrays -/

theorem idx0 : ∀ t : Fin cfg1.N, win1_0.index t = ![t.val, 0] :=
  (by decide +kernel : ∀ t : Fin grid1.N, win1_0.index t = ![t.val, 0])
theorem idx1 : ∀ t : Fin cfg1.N, win1_1.index t = ![0, 0] :=
  (by decide +kernel : ∀ t : Fin grid1.N, win1_1.index t = ![0, 0])
theorem idx2 : ∀ t : Fin cfg1.N, win1_2.index t = ![0, 0] :=
  (by decide +kernel : ∀ t : Fin grid1.N, win1_2.index t = ![0, 0])
theorem idx3 : ∀ t : Fin cfg1.N, win1_3.index t = ![0, 0] :=
  (by decide +kernel : ∀ t : Fin grid1.N, win1_3.index t = ![0, 0])
theorem idx4 : ∀ t : Fin cfg1.N, win1_4.index t = ![0, 0] :=
  (by decide +kernel : ∀ t : Fin grid1.N, win1_4.index t = ![0, 0])
theorem idx5 : ∀ t : Fin cfg1.N, win1_5.index t = ![0, 0] :=
  (by decide +kernel : ∀ t : Fin grid1.N, win1_5.index t = ![0, 0])
theorem idx6 : ∀ t : Fin cfg1.N, win1_6.index t = ![0, 0] :=
  (by decide +kernel : ∀ t : Fin grid1.N, win1_6.index t = ![0, 0])
theorem idx7 : ∀ t : Fin cfg1.N, win1_7.index t = ![0, 0] :=
  (by decide +kernel : ∀ t : Fin grid1.N, win1_7.index t = ![0, 0])
theorem idx8 : ∀ t : Fin cfg1.N, win1_8.index t = ![0, 0] :=
  (by decide +kernel : ∀ t : Fin grid1.N, win1_8.index t = ![0, 0])
theorem idx9 : ∀ t : Fin cfg1.N, win1_9.index t = ![0, 0] :=
  (by decide +kernel : ∀ t : Fin grid1.N, win1_9.index t = ![0, 0])
theorem idx10 : ∀ t : Fin cfg1.N, win1_10.index t = ![0, 0] :=
  (by decide +kernel : ∀ t : Fin grid1.N, win1_10.index t = ![0, 0])
theorem idx11 : ∀ t : Fin cfg1.N, win1_11.index t = ![0, 0] :=
  (by decide +kernel : ∀ t : Fin grid1.N, win1_11.index t = ![0, 0])
theorem idx12 : ∀ t : Fin cfg1.N, win1_12.index t = ![0, 0] :=
  (by decide +kernel : ∀ t : Fin grid1.N, win1_12.index t = ![0, 0])
theorem idx13 : ∀ t : Fin cfg1.N, win1_13.index t = ![t.val, 0] :=
  (by decide +kernel : ∀ t : Fin grid1.N, win1_13.index t = ![t.val, 0])
theorem idx14 : ∀ t : Fin cfg1.N, win1_14.index t = ![t.val, 0, 0] :=
  (by decide +kernel : ∀ t : Fin grid1.N, win1_14.index t = ![t.val, 0, 0])
theorem idx15 : ∀ t : Fin cfg1.N, win1_15.index t = ![t.val, 0, 0] :=
  (by decide +kernel : ∀ t : Fin grid1.N, win1_15.index t = ![t.val, 0, 0])

variable (V : (c : Dev nD) → (b : Ref sig .tc) → Buf (Elt Ideal) ((c : Thread nD τ).loc b)) (c : Dev nD)

/-- A grid point's number. -/
def pt (t : Fin cfg1.N) : Fin 4 := ⟨t.val, lt_of_lt_of_eq t.isLt N_1⟩

theorem blk0 (t : Fin cfg1.N) (r : Fin 8192) (k : Fin 256) :
    blk V c 0 t (ix2 r k) = V c main_v13_0 (ix2 (Model.at4 (pt t) r) k) := by
  blk_simp [blk]; congr 1; blk_ext [idx0]; rfl
theorem blk1 (t : Fin cfg1.N) (k : Fin 128) : blk V c 1 t (ix2 k 0) = V c main_v13_1 (ix2 k 0) := by
  blk_simp [blk]; congr 1; blk_ext [idx1]
theorem blk2 (t : Fin cfg1.N) (k : Fin 128) : blk V c 2 t (ix2 k 0) = V c main_v13_2 (ix2 k 0) := by
  blk_simp [blk]; congr 1; blk_ext [idx2]
theorem blk3 (t : Fin cfg1.N) (k : Fin 128) : blk V c 3 t (ix2 0 k) = V c main_v0 (ix2 0 k) := by
  blk_simp [blk]; congr 1; blk_ext [idx3]
theorem blk4 (t : Fin cfg1.N) (k : Fin 128) : blk V c 4 t (ix2 0 k) = V c main_v1 (ix2 0 k) := by
  blk_simp [blk]; congr 1; blk_ext [idx4]
theorem blk5 (t : Fin cfg1.N) (k : Fin 128) (j : Fin 256) : blk V c 5 t (ix2 k j) = V c main_v13_3 (ix2 k j) := by
  blk_simp [blk]; congr 1; blk_ext [idx5]
theorem blk6 (t : Fin cfg1.N) (k : Fin 128) (j : Fin 256) : blk V c 6 t (ix2 k j) = V c main_v13_4 (ix2 k j) := by
  blk_simp [blk]; congr 1; blk_ext [idx6]
theorem blk7 (t : Fin cfg1.N) (j : Fin 256) (k : Fin 128) : blk V c 7 t (ix2 j k) = V c main_arg7 (ix2 j k) := by
  blk_simp [blk]; congr 1; blk_ext [idx7]
theorem blk8 (t : Fin cfg1.N) (k : Fin 256) : blk V c 8 t (ix2 0 k) = V c main_v14 (ix2 0 k) := by
  blk_simp [blk]; congr 1; blk_ext [idx8]
theorem blk9 (t : Fin cfg1.N) (k : Fin 256) : blk V c 9 t (ix2 0 k) = V c main_v2 (ix2 0 k) := by
  blk_simp [blk]; congr 1; blk_ext [idx9]
theorem blk10 (t : Fin cfg1.N) (k : Fin 256) : blk V c 10 t (ix2 0 k) = V c main_v3 (ix2 0 k) := by
  blk_simp [blk]; congr 1; blk_ext [idx10]
theorem blk11 (t : Fin cfg1.N) (j k : Fin 256) : blk V c 11 t (ix2 j k) = V c main_arg11 (ix2 j k) := by
  blk_simp [blk]; congr 1; blk_ext [idx11]
theorem blk12 (t : Fin cfg1.N) (k : Fin 256) : blk V c 12 t (ix2 0 k) = V c main_v15 (ix2 0 k) := by
  blk_simp [blk]; congr 1; blk_ext [idx12]

theorem emb13 (t : Fin cfg1.N) (r : Fin 8192) (j : Fin 256) :
    (win1_13.blk t).view.emb (ix2 r j) = ix2 (Model.at4 (pt t) r) j := by blk_ext [idx13]; rfl
theorem emb14 (t : Fin cfg1.N) (j : Fin 256) : (win1_14.blk t).view.emb (ix3 0 0 j) = ix3 (pt t) 0 j := by
  blk_ext [idx14]; rfl
theorem emb15 (t : Fin cfg1.N) (j : Fin 256) : (win1_15.blk t).view.emb (ix3 0 0 j) = ix3 (pt t) 0 j := by
  blk_ext [idx15]; rfl

section Arrays
attribute [local irreducible] Model.seg Model.segSq Model.sum0 Model.sq0 Model.raw

variable (X : Fin 16 → Fin 128 → Fin 2048 → ℝ) (g0 b0 : Fin 128 → ℝ) (w1 : Fin 256 → Fin 128 → ℝ) (b1 g b : Fin 256 → ℝ)
  (w2 : Fin 256 → Fin 256 → ℝ) (b2 : Fin 256 → ℝ)

/-- What the region needs of the buffers it reads. -/
structure Entry : Prop where
  u : ∀ r k, V c main_v13_0 (ix2 r k) = ((Model.raw X w1 r k : ℝ) : EReal)
  s : ∀ k, V c main_v13_1 (ix2 k 0) = ((Model.sum0 X k : ℝ) : EReal)
  q : ∀ k, V c main_v13_2 (ix2 k 0) = ((Model.sq0 X k : ℝ) : EReal)
  g0 : ∀ k, V c main_v0 (ix2 0 k) = ((g0 k : ℝ) : EReal)
  b0 : ∀ k, V c main_v1 (ix2 0 k) = ((b0 k : ℝ) : EReal)
  u1 : ∀ k j, V c main_v13_3 (ix2 k j) = ((Model.seg X w1 k j : ℝ) : EReal)
  u2 : ∀ k j, V c main_v13_4 (ix2 k j) = ((Model.segSq X w1 k j : ℝ) : EReal)
  w1 : ∀ j k, V c main_arg7 (ix2 j k) = ((w1 j k : ℝ) : EReal)
  b1 : ∀ k, V c main_v14 (ix2 0 k) = ((b1 k : ℝ) : EReal)
  g : ∀ k, V c main_v2 (ix2 0 k) = ((g k : ℝ) : EReal)
  b : ∀ k, V c main_v3 (ix2 0 k) = ((b k : ℝ) : EReal)
  w2 : ∀ j k, V c main_arg11 (ix2 j k) = ((w2 j k : ℝ) : EReal)
  b2 : ∀ k, V c main_v15 (ix2 0 k) = ((b2 k : ℝ) : EReal)

/-- The first layer's rows. -/
abbrev first : Fin 32768 → Fin 256 → ℝ := Model.linear (Model.rows (Model.xn X g0 b0)) w1 b1
/-- The second layer's rows. -/
abbrev layer : Fin 32768 → Fin 256 → ℝ := Model.linear (Model.relu (Model.bn (first X g0 b0 w1 b1) g b)) w2 b2

/-- The numbers of grid point `t`. -/
def reals (t : Fin 4) : Reals :=
  { u := fun r k => Model.raw X w1 (Model.at4 t r) k, s0 := Model.sum0 X, q0 := Model.sq0 X, g0 := g0, b0 := b0,
    u1 := Model.seg X w1, u2 := Model.segSq X w1, w1 := w1, b1 := b1, g1 := g, be1 := b, w2 := w2, b2 := b2 }

/-- The column sums, where a channel's entries are its sums of raw products. -/
theorem Reals.s1_eq (R : Reals) (e : R.u1 = Model.seg X R.w1) (j : Fin 256) :
    R.s1 j = Model.colSum (Model.linear (Model.rows fun n c l => X n c l * R.a c + R.e c) R.w1 R.b1) j := by
  rw [← Model.colSum_seg, ← e]; unfold Reals.s1 Reals.d; rfl
theorem Reals.q1_eq (R : Reals) (e : R.u1 = Model.seg X R.w1) (e' : R.u2 = Model.segSq X R.w1) (j : Fin 256) :
    R.q1 j = Model.colSq (Model.linear (Model.rows fun n c l => X n c l * R.a c + R.e c) R.w1 R.b1) j := by
  rw [← Model.colSq_seg, ← e, ← e']; unfold Reals.q1 Reals.d; rfl

theorem reals_w1 (t : Fin 4) : (reals X g0 b0 w1 b1 g b w2 b2 t).w1 = w1 := rfl
theorem reals_u1 (t : Fin 4) : (reals X g0 b0 w1 b1 g b w2 b2 t).u1 = Model.seg X w1 := rfl
theorem reals_u2 (t : Fin 4) : (reals X g0 b0 w1 b1 g b w2 b2 t).u2 = Model.segSq X w1 := rfl

theorem first_eq (t : Fin 4) : Model.linear (Model.rows fun n c l => X n c l * (reals X g0 b0 w1 b1 g b w2 b2 t).a c
    + (reals X g0 b0 w1 b1 g b w2 b2 t).e c) (reals X g0 b0 w1 b1 g b w2 b2 t).w1 (reals X g0 b0 w1 b1 g b w2 b2 t).b1
      = first X g0 b0 w1 b1 := rfl

theorem reals_s1 (t : Fin 4) (j : Fin 256) :
    (reals X g0 b0 w1 b1 g b w2 b2 t).s1 j = Model.colSum (first X g0 b0 w1 b1) j := by
  rw [Reals.s1_eq X (reals X g0 b0 w1 b1 g b w2 b2 t) (by rw [reals_u1, reals_w1]) j, first_eq]
theorem reals_q1 (t : Fin 4) (j : Fin 256) :
    (reals X g0 b0 w1 b1 g b w2 b2 t).q1 j = Model.colSq (first X g0 b0 w1 b1) j := by
  rw [Reals.q1_eq X (reals X g0 b0 w1 b1 g b w2 b2 t) (by rw [reals_u1, reals_w1]) (by rw [reals_u2, reals_w1]) j, first_eq]

theorem chan_at4 (t : Fin 4) (r : Fin 8192) : Model.chan (Model.at4 t r) = Reals.ch r :=
  Fin.ext (by simp only [Model.chan, Model.at4, Reals.ch]; omega)

/-- A block's rows are the second layer's. -/
theorem reals_row (t : Fin 4) (r : Fin 8192) (j : Fin 256) :
    (reals X g0 b0 w1 b1 g b w2 b2 t).row r j = layer X g0 b0 w1 b1 g b w2 b2 (Model.at4 t r) j := by
  unfold Reals.row layer Model.linear Model.relu Model.bn
  refine congrArg₂ (· + ·) (Finset.sum_congr rfl fun k _ => ?_) rfl
  refine congrArg₂ (· * ·) (congrArg (max · 0) ?_) rfl
  have e := Model.linear_raw X w1 (reals X g0 b0 w1 b1 g b w2 b2 t).a (reals X g0 b0 w1 b1 g b w2 b2 t).e b1 (Model.at4 t r) k
  rw [chan_at4] at e
  have e' : first X g0 b0 w1 b1 (Model.at4 t r) k = (reals X g0 b0 w1 b1 g b w2 b2 t).u r k
    * (reals X g0 b0 w1 b1 g b w2 b2 t).a (Reals.ch r) + (reals X g0 b0 w1 b1 g b w2 b2 t).d (Reals.ch r) k := e
  unfold Reals.sc Reals.sh
  rw [reals_s1, reals_q1, e']
  show _ = _ * Model.scale _ _ ((reals X g0 b0 w1 b1 g b w2 b2 t).g1 k)
    + Model.shift _ _ ((reals X g0 b0 w1 b1 g b w2 b2 t).g1 k) ((reals X g0 b0 w1 b1 g b w2 b2 t).be1 k)
  ring

variable (h : Entry V c X g0 b0 w1 b1 g b w2 b2)
include h

theorem holds (t : Fin cfg1.N) : Holds (reals X g0 b0 w1 b1 g b w2 b2 (pt t)) (blk V c 0 t) (blk V c 1 t) (blk V c 2 t)
    (blk V c 3 t) (blk V c 4 t) (blk V c 5 t) (blk V c 6 t) (blk V c 7 t) (blk V c 8 t) (blk V c 9 t) (blk V c 10 t)
    (blk V c 11 t) (blk V c 12 t) where
  h0 r k := (blk0 V c t r k).trans (h.u _ _)
  h1 k := (blk1 V c t k).trans (h.s k)
  h2 k := (blk2 V c t k).trans (h.q k)
  h3 k := (blk3 V c t k).trans (h.g0 k)
  h4 k := (blk4 V c t k).trans (h.b0 k)
  h5 k j := (blk5 V c t k j).trans (h.u1 k j)
  h6 k j := (blk6 V c t k j).trans (h.u2 k j)
  h7 j k := (blk7 V c t j k).trans (h.w1 j k)
  h8 j := (blk8 V c t j).trans (h.b1 j)
  h9 j := (blk9 V c t j).trans (h.g j)
  h10 j := (blk10 V c t j).trans (h.b j)
  h11 j k := (blk11 V c t j k).trans (h.w2 j k)
  h12 j := (blk12 V c t j).trans (h.b2 j)
  r0 k := by exact Model.rad0_pos X k
  r1 j := by rw [reals_s1, reals_q1]; exact Model.radCol_pos _ j

theorem block13 (t : Fin cfg1.N) (r : Fin 8192) (j : Fin 256) :
    (dat V c).after 13 t (ix2 r j) = ((layer X g0 b0 w1 b1 g b w2 b2 (Model.at4 (pt t) r) j : ℝ) : EReal) := by
  rw [after_13, ← reals_row]
  exact outY_coe (holds V c X g0 b0 w1 b1 g b w2 b2 h t) r j
theorem block14 (t : Fin cfg1.N) (j : Fin 256) :
    (dat V c).after 14 t (ix3 0 0 j) = ((Model.partSum (layer X g0 b0 w1 b1 g b w2 b2) (pt t) j : ℝ) : EReal) := by
  rw [after_14]; unfold Model.partSum; simp only [← reals_row]
  exact outS_coe (holds V c X g0 b0 w1 b1 g b w2 b2 h t) j
theorem block15 (t : Fin cfg1.N) (j : Fin 256) :
    (dat V c).after 15 t (ix3 0 0 j) = ((Model.partSq (layer X g0 b0 w1 b1 g b w2 b2) (pt t) j : ℝ) : EReal) := by
  rw [after_15]; unfold Model.partSq; simp only [← reals_row]
  exact outQ_coe (holds V c X g0 b0 w1 b1 g b w2 b2 h t) j

theorem arr13 : (dat V c).arrAt 13 cfg1.N = mat (layer X g0 b0 w1 b1 g b w2 b2) := by
  refine (dat V c).arrAt_eq_of_covers 13 (mat (layer X g0 b0 w1 b1 g b w2 b2)) (by decide +kernel) fun t hf y => ?_
  blk_simp
  idx_vars y
  exact (block13 V c X g0 b0 w1 b1 g b w2 b2 h t _ _).trans (congrArg (mat (layer X g0 b0 w1 b1 g b w2 b2)) (emb13 t _ _)).symm

theorem arr14 : (dat V c).arrAt 14 cfg1.N = mat1 (Model.partSum (layer X g0 b0 w1 b1 g b w2 b2)) := by
  refine (dat V c).arrAt_eq_of_covers 14 (mat1 (Model.partSum (layer X g0 b0 w1 b1 g b w2 b2))) (by decide +kernel) fun t hf y => ?_
  blk_simp
  idx_vars y
  obtain rfl := Subsingleton.elim y0 0
  obtain rfl := Subsingleton.elim y1 0
  exact (block14 V c X g0 b0 w1 b1 g b w2 b2 h t _).trans
    (congrArg (mat1 (Model.partSum (layer X g0 b0 w1 b1 g b w2 b2))) (emb14 t _)).symm

theorem arr15 : (dat V c).arrAt 15 cfg1.N = mat1 (Model.partSq (layer X g0 b0 w1 b1 g b w2 b2)) := by
  refine (dat V c).arrAt_eq_of_covers 15 (mat1 (Model.partSq (layer X g0 b0 w1 b1 g b w2 b2))) (by decide +kernel) fun t hf y => ?_
  blk_simp
  idx_vars y
  obtain rfl := Subsingleton.elim y0 0
  obtain rfl := Subsingleton.elim y1 0
  exact (block15 V c X g0 b0 w1 b1 g b w2 b2 h t _).trans
    (congrArg (mat1 (Model.partSq (layer X g0 b0 w1 b1 g b w2 b2))) (emb15 t _)).symm

end Arrays

end Cert.KernelIdeal.Mid1
end
-- ==== Proof.Value.Mid.lean ====
/-
  The third region's values: the normalised second layer through the third weights, and its column sums.
-/
module

public import proofs.«01_k».proof.Proof.Mid
public import proofs.«01_k».proof.Proof.Value.Kit
public import Idealize.ShloMosaic.Lib.Pipeline.ValueKit

@[expose] public section

set_option maxRecDepth 16384

noncomputable section

namespace Cert.KernelIdeal.Mid

open Cert.KernelIdeal.Gen Cert.Kit
open Idealize.ShloMosaic Idealize.ShloMosaic.TcCoe

section Block
variable (x0 : Vec Ideal S8192x256 .bf16) (x1 x2 : Vec Ideal S4x1x256 .f32) (x3 x4 : Vec Ideal S1x256 .f32)
  (x5 : Vec Ideal S256x256 .f32) (x6 : Vec Ideal S1x256 .f32)
variable (y : Fin 8192 → Fin 256 → ℝ) (P Q : Fin 4 → Fin 256 → ℝ) (s q g b : Fin 256 → ℝ) (w : Fin 256 → Fin 256 → ℝ) (e : Fin 256 → ℝ)

/-- A row of the block after the layer. -/
def row (r : Fin 8192) (j : Fin 256) : ℝ :=
  (∑ k, max (y r k * Model.scale (s k) (q k) (g k) + Model.shift (s k) (q k) (g k) (b k)) 0 * w j k) + e j

variable (h0 : ∀ r k, x0 (ix2 r k) = ((y r k : ℝ) : EReal))
  (h1 : ∀ t k, x1 (ix3 t 0 k) = ((P t k : ℝ) : EReal)) (h2 : ∀ t k, x2 (ix3 t 0 k) = ((Q t k : ℝ) : EReal))
  (hs : ∀ k, ∑ t, P t k = s k) (hq : ∀ k, ∑ t, Q t k = q k)
  (h3 : ∀ k, x3 (ix2 0 k) = ((g k : ℝ) : EReal)) (h4 : ∀ k, x4 (ix2 0 k) = ((b k : ℝ) : EReal))
  (h5 : ∀ j k, x5 (ix2 j k) = ((w j k : ℝ) : EReal)) (h6 : ∀ j, x6 (ix2 0 j) = ((e j : ℝ) : EReal))
  (hr : ∀ k, 0 < Model.rad (s k) (q k))
include h0 h1 h2 hs hq h3 h4 h5 h6 hr

theorem value_coe (r : Fin 8192) (j : Fin 256) :
    k2_pay1 (prod x0 x1 x2 x3 x4 x5) (View.ld x6 rV) (ix2 r j) = ((row y s q g b w e r j : ℝ) : EReal) := by
  pointwise [prod, k2_pay1, k2_pay5, reduceAdd_a01]
  simp only [Fin.sum_univ_one, h0, h1, h2, h3, h4, h5, h6, lit_mean, lit_eps, sum_coe, hs, hq, ← EReal.coe_mul, ← EReal.coe_sub, ← EReal.coe_add,
    scale_coe _ (hr _), max_zero_coe]
  rfl

theorem outY_coe (r : Fin 8192) (j : Fin 256) :
    outY x0 x1 x2 x3 x4 x5 x6 (ix2 r j) = ((row y s q g b w e r j : ℝ) : EReal) := by
  unfold outY
  rw [View.canon_cons_unit_lit _ _ _ (by decide)]
  pointwise [k2_pay2]
  exact value_coe x0 x1 x2 x3 x4 x5 x6 y P Q s q g b w e h0 h1 h2 hs hq h3 h4 h5 h6 hr r j

theorem outS_coe (j : Fin 256) :
    outS x0 x1 x2 x3 x4 x5 x6 (ix3 0 0 j) = ((∑ r, row y s q g b w e r j : ℝ) : EReal) := by
  unfold outS
  rw [View.canon_cons_unit_lit _ _ _ (by decide)]
  pointwise [k2_pay3]
  simp only [value_coe x0 x1 x2 x3 x4 x5 x6 y P Q s q g b w e h0 h1 h2 hs hq h3 h4 h5 h6 hr, sum_coe]

theorem outQ_coe (j : Fin 256) :
    outQ x0 x1 x2 x3 x4 x5 x6 (ix3 0 0 j)
      = ((∑ r, row y s q g b w e r j * row y s q g b w e r j : ℝ) : EReal) := by
  unfold outQ
  rw [View.canon_cons_unit_lit _ _ _ (by decide)]
  pointwise [k2_pay4]
  simp only [value_coe x0 x1 x2 x3 x4 x5 x6 y P Q s q g b w e h0 h1 h2 hs hq h3 h4 h5 h6 hr, ← EReal.coe_mul, sum_coe]

end Block

/-! ## The arrays -/

theorem idx0 : ∀ t : Fin cfg2.N, win2_0.index t = ![t.val, 0] := (by decide +kernel : ∀ t : Fin grid2.N, win2_0.index t = ![t.val, 0])
theorem idx1 : ∀ t : Fin cfg2.N, win2_1.index t = ![0, 0, 0] := (by decide +kernel : ∀ t : Fin grid2.N, win2_1.index t = ![0, 0, 0])
theorem idx2 : ∀ t : Fin cfg2.N, win2_2.index t = ![0, 0, 0] := (by decide +kernel : ∀ t : Fin grid2.N, win2_2.index t = ![0, 0, 0])
theorem idx3 : ∀ t : Fin cfg2.N, win2_3.index t = ![0, 0] := (by decide +kernel : ∀ t : Fin grid2.N, win2_3.index t = ![0, 0])
theorem idx4 : ∀ t : Fin cfg2.N, win2_4.index t = ![0, 0] := (by decide +kernel : ∀ t : Fin grid2.N, win2_4.index t = ![0, 0])
theorem idx5 : ∀ t : Fin cfg2.N, win2_5.index t = ![0, 0] := (by decide +kernel : ∀ t : Fin grid2.N, win2_5.index t = ![0, 0])
theorem idx6 : ∀ t : Fin cfg2.N, win2_6.index t = ![0, 0] := (by decide +kernel : ∀ t : Fin grid2.N, win2_6.index t = ![0, 0])
theorem idx7 : ∀ t : Fin cfg2.N, win2_7.index t = ![t.val, 0] := (by decide +kernel : ∀ t : Fin grid2.N, win2_7.index t = ![t.val, 0])
theorem idx8 : ∀ t : Fin cfg2.N, win2_8.index t = ![t.val, 0, 0] := (by decide +kernel : ∀ t : Fin grid2.N, win2_8.index t = ![t.val, 0, 0])
theorem idx9 : ∀ t : Fin cfg2.N, win2_9.index t = ![t.val, 0, 0] := (by decide +kernel : ∀ t : Fin grid2.N, win2_9.index t = ![t.val, 0, 0])

variable (V : (c : Dev nD) → (b : Ref sig .tc) → Buf (Elt Ideal) ((c : Thread nD τ).loc b)) (c : Dev nD)

/-- A grid point's number. -/
def pt (t : Fin cfg2.N) : Fin 4 := ⟨t.val, lt_of_lt_of_eq t.isLt N_2⟩

theorem blk0 (t : Fin cfg2.N) (r : Fin 8192) (k : Fin 256) :
    blk V c 0 t (ix2 r k) = V c main_v16_0 (ix2 (Model.at4 (pt t) r) k) := by
  blk_simp [blk]; congr 1; blk_ext [idx0]; rfl
theorem blk1 (t : Fin cfg2.N) (p : Fin 4) (k : Fin 256) : blk V c 1 t (ix3 p 0 k) = V c main_v16_1 (ix3 p 0 k) := by
  blk_simp [blk]; congr 1; blk_ext [idx1]
theorem blk2 (t : Fin cfg2.N) (p : Fin 4) (k : Fin 256) : blk V c 2 t (ix3 p 0 k) = V c main_v16_2 (ix3 p 0 k) := by
  blk_simp [blk]; congr 1; blk_ext [idx2]
theorem blk3 (t : Fin cfg2.N) (k : Fin 256) : blk V c 3 t (ix2 0 k) = V c main_v2 (ix2 0 k) := by
  blk_simp [blk]; congr 1; blk_ext [idx3]
theorem blk4 (t : Fin cfg2.N) (k : Fin 256) : blk V c 4 t (ix2 0 k) = V c main_v3 (ix2 0 k) := by
  blk_simp [blk]; congr 1; blk_ext [idx4]
theorem blk5 (t : Fin cfg2.N) (j k : Fin 256) : blk V c 5 t (ix2 j k) = V c main_arg13 (ix2 j k) := by
  blk_simp [blk]; congr 1; blk_ext [idx5]
theorem blk6 (t : Fin cfg2.N) (k : Fin 256) : blk V c 6 t (ix2 0 k) = V c main_v17 (ix2 0 k) := by
  blk_simp [blk]; congr 1; blk_ext [idx6]

theorem emb7 (t : Fin cfg2.N) (r : Fin 8192) (j : Fin 256) :
    (win2_7.blk t).view.emb (ix2 r j) = ix2 (Model.at4 (pt t) r) j := by blk_ext [idx7]; rfl
theorem emb8 (t : Fin cfg2.N) (j : Fin 256) : (win2_8.blk t).view.emb (ix3 0 0 j) = ix3 (pt t) 0 j := by
  blk_ext [idx8]; rfl
theorem emb9 (t : Fin cfg2.N) (j : Fin 256) : (win2_9.blk t).view.emb (ix3 0 0 j) = ix3 (pt t) 0 j := by
  blk_ext [idx9]; rfl

section Arrays
variable (Y : Fin 32768 → Fin 256 → ℝ) (g b : Fin 256 → ℝ) (w : Fin 256 → Fin 256 → ℝ) (e : Fin 256 → ℝ)

/-- What the region needs of the buffers it reads. -/
structure Entry : Prop where
  y : ∀ r k, V c main_v16_0 (ix2 r k) = ((Y r k : ℝ) : EReal)
  s : ∀ t k, V c main_v16_1 (ix3 t 0 k) = ((Model.partSum Y t k : ℝ) : EReal)
  q : ∀ t k, V c main_v16_2 (ix3 t 0 k) = ((Model.partSq Y t k : ℝ) : EReal)
  g : ∀ k, V c main_v2 (ix2 0 k) = ((g k : ℝ) : EReal)
  b : ∀ k, V c main_v3 (ix2 0 k) = ((b k : ℝ) : EReal)
  w : ∀ j k, V c main_arg13 (ix2 j k) = ((w j k : ℝ) : EReal)
  e : ∀ j, V c main_v17 (ix2 0 j) = ((e j : ℝ) : EReal)

variable (h : Entry V c Y g b w e)

/-- The layer's rows. -/
abbrev layer : Fin 32768 → Fin 256 → ℝ := Model.linear (Model.relu (Model.bn Y g b)) w e

include h

theorem block7 (t : Fin cfg2.N) (r : Fin 8192) (j : Fin 256) :
    (dat V c).after 7 t (ix2 r j) = ((layer Y g b w e (Model.at4 (pt t) r) j : ℝ) : EReal) := by
  rw [after_7]
  exact outY_coe _ _ _ _ _ _ _ (fun r k => Y (Model.at4 (pt t) r) k) _ _ _ _ g b w e (fun r k => (blk0 V c t r k).trans (h.y _ _))
    (fun p k => (blk1 V c t p k).trans (h.s p k)) (fun p k => (blk2 V c t p k).trans (h.q p k)) (Model.sum_part Y)
    (Model.sum_partSq Y) (fun k => (blk3 V c t k).trans (h.g k)) (fun k => (blk4 V c t k).trans (h.b k))
    (fun j k => (blk5 V c t j k).trans (h.w j k)) (fun j => (blk6 V c t j).trans (h.e j)) (Model.radCol_pos Y) r j

theorem block8 (t : Fin cfg2.N) (j : Fin 256) :
    (dat V c).after 8 t (ix3 0 0 j) = ((Model.partSum (layer Y g b w e) (pt t) j : ℝ) : EReal) := by
  rw [after_8]
  exact outS_coe _ _ _ _ _ _ _ (fun r k => Y (Model.at4 (pt t) r) k) _ _ _ _ g b w e (fun r k => (blk0 V c t r k).trans (h.y _ _))
    (fun p k => (blk1 V c t p k).trans (h.s p k)) (fun p k => (blk2 V c t p k).trans (h.q p k)) (Model.sum_part Y)
    (Model.sum_partSq Y) (fun k => (blk3 V c t k).trans (h.g k)) (fun k => (blk4 V c t k).trans (h.b k))
    (fun j k => (blk5 V c t j k).trans (h.w j k)) (fun j => (blk6 V c t j).trans (h.e j)) (Model.radCol_pos Y) j

theorem block9 (t : Fin cfg2.N) (j : Fin 256) :
    (dat V c).after 9 t (ix3 0 0 j) = ((Model.partSq (layer Y g b w e) (pt t) j : ℝ) : EReal) := by
  rw [after_9]
  exact outQ_coe _ _ _ _ _ _ _ (fun r k => Y (Model.at4 (pt t) r) k) _ _ _ _ g b w e (fun r k => (blk0 V c t r k).trans (h.y _ _))
    (fun p k => (blk1 V c t p k).trans (h.s p k)) (fun p k => (blk2 V c t p k).trans (h.q p k)) (Model.sum_part Y)
    (Model.sum_partSq Y) (fun k => (blk3 V c t k).trans (h.g k)) (fun k => (blk4 V c t k).trans (h.b k))
    (fun j k => (blk5 V c t j k).trans (h.w j k)) (fun j => (blk6 V c t j).trans (h.e j)) (Model.radCol_pos Y) j

theorem arr7 : (dat V c).arrAt 7 cfg2.N = mat (layer Y g b w e) := by
  refine (dat V c).arrAt_eq_of_covers 7 (mat (layer Y g b w e)) (by decide +kernel) fun t hf y => ?_
  blk_simp
  idx_vars y
  exact (block7 V c Y g b w e h t _ _).trans (congrArg (mat (layer Y g b w e)) (emb7 t _ _)).symm

theorem arr8 : (dat V c).arrAt 8 cfg2.N = mat1 (Model.partSum (layer Y g b w e)) := by
  refine (dat V c).arrAt_eq_of_covers 8 (mat1 (Model.partSum (layer Y g b w e))) (by decide +kernel) fun t hf y => ?_
  blk_simp
  idx_vars y
  obtain rfl := Subsingleton.elim y0 0
  obtain rfl := Subsingleton.elim y1 0
  exact (block8 V c Y g b w e h t _).trans (congrArg (mat1 (Model.partSum (layer Y g b w e))) (emb8 t _)).symm

theorem arr9 : (dat V c).arrAt 9 cfg2.N = mat1 (Model.partSq (layer Y g b w e)) := by
  refine (dat V c).arrAt_eq_of_covers 9 (mat1 (Model.partSq (layer Y g b w e))) (by decide +kernel) fun t hf y => ?_
  blk_simp
  idx_vars y
  obtain rfl := Subsingleton.elim y0 0
  obtain rfl := Subsingleton.elim y1 0
  exact (block9 V c Y g b w e h t _).trans (congrArg (mat1 (Model.partSq (layer Y g b w e))) (emb9 t _)).symm

end Arrays

end Cert.KernelIdeal.Mid
end
-- ==== Proof.Value.Tail.lean ====
/-
  The last region's values: the convolution of the normalised input, and the last normalisation's rows added to it.
-/
module

public import proofs.«01_k».proof.Proof.Tail
public import proofs.«01_k».proof.Proof.Value.Conv
public import Idealize.ShloMosaic.Lib.Pipeline.ValueKit

@[expose] public section

set_option maxRecDepth 16384

noncomputable section

namespace Cert.KernelIdeal.Tail

open Cert.KernelIdeal.Gen Cert.Kit
open Idealize.ShloMosaic Idealize.ShloMosaic.TcCoe

section Block
variable {x0 : Vec Ideal S4x128x2048 .f32} {x1 x2 : Vec Ideal S128x1 .f32} {x3 x4 : Vec Ideal S1x128 .f32}
  {x5 : Vec Ideal S256x384 .bf16} {x6 : Vec Ideal S1x256 .f32} {x7 : Vec Ideal S8192x256 .bf16}
  {x8 x9 : Vec Ideal S4x1x256 .f32} {x10 x11 : Vec Ideal S1x256 .f32}

/-- The numbers that a block's buffers hold. -/
structure Nums where
  x : Fin 4 → Fin 128 → Fin 2048 → ℝ
  s0 : Fin 128 → ℝ
  q0 : Fin 128 → ℝ
  g0 : Fin 128 → ℝ
  b0 : Fin 128 → ℝ
  w : Fin 256 → Fin 128 → Fin 3 → EReal
  e : Fin 256 → EReal
  y : Fin 8192 → Fin 256 → ℝ
  p : Fin 4 → Fin 256 → ℝ
  q : Fin 4 → Fin 256 → ℝ
  g : Fin 256 → ℝ
  b : Fin 256 → ℝ

namespace Nums
variable (R : Nums)
/-- The normalised input. -/
def z (n : Fin 4) (c : Fin 128) (l : Fin 2048) : ℝ :=
  R.x n c l * Model.scale (R.s0 c) (R.q0 c) (R.g0 c) + Model.shift (R.s0 c) (R.q0 c) (R.g0 c) (R.b0 c)
/-- The last scale. -/
def sc (j : Fin 256) : ℝ := Model.scale (∑ t, R.p t j) (∑ t, R.q t j) (R.g j)
/-- The last shift. -/
def sh (j : Fin 256) : ℝ := Model.shift (∑ t, R.p t j) (∑ t, R.q t j) (R.g j) (R.b j)
/-- The block's result. -/
def res (n : Fin 4) (o : Fin 256) (l : Fin 2048) : EReal :=
  max (conv (R.w o) (R.z n) l + R.e o) 0
    + ((max (R.y ⟨n.val * 2048 + (o.val * 8 + l.val / 256), by omega⟩ ⟨l.val % 256, by omega⟩ * R.sc ⟨l.val % 256, by omega⟩
      + R.sh ⟨l.val % 256, by omega⟩) 0 : ℝ) : EReal)
end Nums

/-- What a block's buffers hold, and that no variance is negative. -/
structure Holds (R : Nums) (x0 : Vec Ideal S4x128x2048 .f32) (x1 x2 : Vec Ideal S128x1 .f32) (x3 x4 : Vec Ideal S1x128 .f32)
    (x5 : Vec Ideal S256x384 .bf16) (x6 : Vec Ideal S1x256 .f32) (x7 : Vec Ideal S8192x256 .bf16)
    (x8 x9 : Vec Ideal S4x1x256 .f32) (x10 x11 : Vec Ideal S1x256 .f32) : Prop where
  h0 : ∀ n c l, x0 (ix3 n c l) = ((R.x n c l : ℝ) : EReal)
  h1 : ∀ c, x1 (ix2 c 0) = ((R.s0 c : ℝ) : EReal)
  h2 : ∀ c, x2 (ix2 c 0) = ((R.q0 c : ℝ) : EReal)
  h3 : ∀ c, x3 (ix2 0 c) = ((R.g0 c : ℝ) : EReal)
  h4 : ∀ c, x4 (ix2 0 c) = ((R.b0 c : ℝ) : EReal)
  h5 : ∀ o (k : Fin 384), x5 (ix2 o k) = R.w o ⟨k.val % 128, by omega⟩ ⟨k.val / 128, by omega⟩
  h6 : ∀ o, x6 (ix2 0 o) = R.e o
  h7 : ∀ r j, x7 (ix2 r j) = ((R.y r j : ℝ) : EReal)
  h8 : ∀ t j, x8 (ix3 t 0 j) = ((R.p t j : ℝ) : EReal)
  h9 : ∀ t j, x9 (ix3 t 0 j) = ((R.q t j : ℝ) : EReal)
  h10 : ∀ j, x10 (ix2 0 j) = ((R.g j : ℝ) : EReal)
  h11 : ∀ j, x11 (ix2 0 j) = ((R.b j : ℝ) : EReal)
  r0 : ∀ c, 0 < Model.rad (R.s0 c) (R.q0 c)
  r1 : ∀ j, 0 < Model.rad (∑ t, R.p t j) (∑ t, R.q t j)

variable {R : Nums} (h : Holds R x0 x1 x2 x3 x4 x5 x6 x7 x8 x9 x10 x11)
include h

theorem scale0_coe (c : Fin 128) : scale0 x1 x2 x3 (ix2 c 0) = ((Model.scale (R.s0 c) (R.q0 c) (R.g0 c) : ℝ) : EReal) := by
  pointwise [scale0, k3_pay3, k3_pay2]
  simp only [h.h1, h.h2, h.h3, lit_mean, lit_eps, ← EReal.coe_mul, ← EReal.coe_sub, ← EReal.coe_add, scale_coe _ (h.r0 _)]
theorem shift0_coe (c : Fin 128) :
    shift0 x1 x2 x3 x4 (ix2 c 0) = ((Model.shift (R.s0 c) (R.q0 c) (R.g0 c) (R.b0 c) : ℝ) : EReal) := by
  pointwise [shift0, k3_pay4, k3_pay3, k3_pay2]
  simp only [h.h1, h.h2, h.h3, h.h4, lit_mean, lit_eps, ← EReal.coe_mul, ← EReal.coe_sub, ← EReal.coe_add,
    scale_coe _ (h.r0 _)]
  rfl
theorem scale3_coe (j : Fin 256) : scale3 x8 x9 x10 (ix2 0 j) = ((R.sc j : ℝ) : EReal) := by
  pointwise [scale3, var3, k3_pay7, k3_pay6, k3_pay5, reduceAdd_a01]
  simp only [Fin.sum_univ_one, h.h8, h.h9, h.h10, lit_mean, lit_eps, sum_coe, ← EReal.coe_mul, ← EReal.coe_sub, ← EReal.coe_add,
    scale_coe _ (h.r1 _)]
  rfl
theorem shift3_coe (j : Fin 256) : shift3 x8 x9 x10 x11 (ix2 0 j) = ((R.sh j : ℝ) : EReal) := by
  pointwise [shift3, mean3, var3, k3_pay8, k3_pay7, k3_pay6, k3_pay5, reduceAdd_a01]
  simp only [Fin.sum_univ_one, h.h8, h.h9, h.h10, h.h11, lit_mean, lit_eps, sum_coe, ← EReal.coe_mul, ← EReal.coe_sub,
    ← EReal.coe_add, scale_coe _ (h.r1 _)]
  rfl

/-- One batch element's part of the result. -/
theorem piece_coe (n : Fin 4) (xb : Vec Ideal S1x128x2048 .f32) (yb : Vec Ideal S2048x256 .bf16)
    (hx : ∀ c l, xb (ix3 0 c l) = ((R.x n c l : ℝ) : EReal))
    (hy : ∀ (q : Fin 2048) j, yb (ix2 q j) = ((R.y ⟨n.val * 2048 + q.val, by omega⟩ j : ℝ) : EReal)) (o : Fin 256) (l : Fin 2048) :
    k3_pay11 (scale0 x1 x2 x3) (shift0 x1 x2 x3 x4) (scale3 x8 x9 x10) (shift3 x8 x9 x10 x11) xb (View.ld x5 rK) (View.ld x6 rV) yb
      (ix3 0 o l) = R.res n o l := by
  pointwise [k3_pay11]
  simp only [scale0_coe h, shift0_coe h, scale3_coe h, shift3_coe h, hx, hy, h.h6, ← EReal.coe_mul, ← EReal.coe_add, max_zero_coe]
  unfold Nums.res
  have e := conv_eq (R.w o) (R.z n) l (fun k : Fin 384 => (x5 (ix2 o k) : EReal)) (h.h5 o)
  simp only [← stack_coe (R.z n) l, Nums.z] at e
  rw [e]

omit h in
theorem pay12_eq (v16 v21 v41 v45 x wk b y) :
    k3_pay12 (F := Ideal) v16 v21 v41 v45 x wk b y = k3_pay11 v16 v21 v41 v45 x wk b y := rfl
omit h in
theorem pay1_eq (v16 v21 v41 v45 x wk b y) :
    k3_pay1 (F := Ideal) v16 v21 v41 v45 (k3_pay13 x) wk b y = k3_pay11 v16 v21 v41 v45 x wk b y := rfl
omit h in
theorem pay10_eq (v16 v21 m v g b x wk e y) : k3_pay10 (k3_pay9 (F := Ideal) v16 v21 m v g b x wk e y)
    = k3_pay11 v16 v21 (k3_pay7 v g) (k3_pay8 m v g b) x wk e y := rfl

omit h in
/-- A load of one batch element. -/
theorem ldX (X : Vec Ideal S4x128x2048 .f32) (n : Fin 4) (inb) (c : Fin 128) (l : Fin 2048) :
    View.ld X (Rect.unit (s := S4x128x2048) ![n.val, 0, 0] S1x128x2048.size inb) (ix3 0 c l) = X (ix3 n c l) :=
  View.ld_unit_apply_of _ _ _ _ _ _ fun a => by
    match a with
    | ⟨0, _⟩ => rfl
    | ⟨1, _⟩ => exact (Nat.zero_add _).symm
    | ⟨2, _⟩ => exact (Nat.zero_add _).symm
omit h in
/-- A load of one batch element's rows. -/
theorem ldY (X : Vec Ideal S8192x256 .bf16) (n : Fin 4) (inb) (q : Fin 2048) (j : Fin 256) :
    View.ld X (Rect.unit (s := S8192x256) ![n.val * 2048, 0] S2048x256.size inb) (ix2 q j)
      = X (ix2 ⟨n.val * 2048 + q.val, by omega⟩ j) :=
  View.ld_unit_apply_of _ _ _ _ _ _ fun a => by
    match a with
    | ⟨0, _⟩ => rfl
    | ⟨1, _⟩ => exact (Nat.zero_add _).symm

/-- A batch element's part of the result, from the block's buffers. -/
theorem part_coe (n : Fin 4) (inb inb') (o : Fin 256) (l : Fin 2048) :
    k3_pay11 (scale0 x1 x2 x3) (shift0 x1 x2 x3 x4) (scale3 x8 x9 x10) (shift3 x8 x9 x10 x11)
      (View.ld x0 (Rect.unit (s := S4x128x2048) ![n.val, 0, 0] S1x128x2048.size inb)) (View.ld x5 rK) (View.ld x6 rV)
      (View.ld x7 (Rect.unit (s := S8192x256) ![n.val * 2048, 0] S2048x256.size inb')) (ix3 0 o l) = R.res n o l :=
  piece_coe h n _ _ (fun c l => (ldX x0 n inb c l).trans (h.h0 n c l)) (fun q j => (ldY x7 n inb' q j).trans (h.h7 _ j)) o l

theorem out_coe (n : Fin 4) (o : Fin 256) (l : Fin 2048) :
    out x0 x1 x2 x3 x4 x5 x6 x7 x8 x9 x10 x11 (ix3 n o l) = R.res n o l := by
  canon_tiles x h using coverO ..
  all_goals idx_vars x
  all_goals obtain rfl := Subsingleton.elim x0 0
  all_goals obtain rfl : o = x1 := Fin.ext h1
  all_goals obtain rfl : l = x2 := Fin.ext h2
  · obtain rfl : n = 3 := Fin.ext h0
    rw [pay1_eq]; exact part_coe h 3 _ _ o l
  · obtain rfl : n = 2 := Fin.ext h0
    rw [pay12_eq]; exact part_coe h 2 _ _ o l
  · obtain rfl : n = 1 := Fin.ext h0
    exact part_coe h 1 _ _ o l
  · obtain rfl : n = 0 := Fin.ext h0
    rw [pay10_eq]; exact part_coe h 0 _ _ o l

end Block
/-! ## The array -/

theorem idx0 : ∀ t : Fin cfg3.N, win3_0.index t = ![t.val, 0, 0] :=
  (by decide +kernel : ∀ t : Fin grid3.N, win3_0.index t = ![t.val, 0, 0])
theorem idx1 : ∀ t : Fin cfg3.N, win3_1.index t = ![0, 0] :=
  (by decide +kernel : ∀ t : Fin grid3.N, win3_1.index t = ![0, 0])
theorem idx2 : ∀ t : Fin cfg3.N, win3_2.index t = ![0, 0] :=
  (by decide +kernel : ∀ t : Fin grid3.N, win3_2.index t = ![0, 0])
theorem idx3 : ∀ t : Fin cfg3.N, win3_3.index t = ![0, 0] :=
  (by decide +kernel : ∀ t : Fin grid3.N, win3_3.index t = ![0, 0])
theorem idx4 : ∀ t : Fin cfg3.N, win3_4.index t = ![0, 0] :=
  (by decide +kernel : ∀ t : Fin grid3.N, win3_4.index t = ![0, 0])
theorem idx5 : ∀ t : Fin cfg3.N, win3_5.index t = ![0, 0] :=
  (by decide +kernel : ∀ t : Fin grid3.N, win3_5.index t = ![0, 0])
theorem idx6 : ∀ t : Fin cfg3.N, win3_6.index t = ![0, 0] :=
  (by decide +kernel : ∀ t : Fin grid3.N, win3_6.index t = ![0, 0])
theorem idx7 : ∀ t : Fin cfg3.N, win3_7.index t = ![t.val, 0] :=
  (by decide +kernel : ∀ t : Fin grid3.N, win3_7.index t = ![t.val, 0])
theorem idx8 : ∀ t : Fin cfg3.N, win3_8.index t = ![0, 0, 0] :=
  (by decide +kernel : ∀ t : Fin grid3.N, win3_8.index t = ![0, 0, 0])
theorem idx9 : ∀ t : Fin cfg3.N, win3_9.index t = ![0, 0, 0] :=
  (by decide +kernel : ∀ t : Fin grid3.N, win3_9.index t = ![0, 0, 0])
theorem idx10 : ∀ t : Fin cfg3.N, win3_10.index t = ![0, 0] :=
  (by decide +kernel : ∀ t : Fin grid3.N, win3_10.index t = ![0, 0])
theorem idx11 : ∀ t : Fin cfg3.N, win3_11.index t = ![0, 0] :=
  (by decide +kernel : ∀ t : Fin grid3.N, win3_11.index t = ![0, 0])
theorem idx12 : ∀ t : Fin cfg3.N, win3_12.index t = ![t.val, 0, 0] :=
  (by decide +kernel : ∀ t : Fin grid3.N, win3_12.index t = ![t.val, 0, 0])

variable (V : (c : Dev nD) → (b : Ref sig .tc) → Buf (Elt Ideal) ((c : Thread nD τ).loc b)) (c : Dev nD)

/-- A grid point's number. -/
def pt (t : Fin cfg3.N) : Fin 4 := ⟨t.val, lt_of_lt_of_eq t.isLt N_3⟩

theorem blk0 (t : Fin cfg3.N) (n : Fin 4) (k : Fin 128) (l : Fin 2048) :
    blk V c 0 t (ix3 n k l) = V c main_arg0 (ix3 ⟨(pt t).val * 4 + n.val, by omega⟩ k l) := by
  blk_simp [blk]; congr 1; blk_ext [idx0]; rfl
theorem blk1 (t : Fin cfg3.N) (k : Fin 128) : blk V c 1 t (ix2 k 0) = V c main_v13_1 (ix2 k 0) := by
  blk_simp [blk]; congr 1; blk_ext [idx1]
theorem blk2 (t : Fin cfg3.N) (k : Fin 128) : blk V c 2 t (ix2 k 0) = V c main_v13_2 (ix2 k 0) := by
  blk_simp [blk]; congr 1; blk_ext [idx2]
theorem blk3 (t : Fin cfg3.N) (k : Fin 128) : blk V c 3 t (ix2 0 k) = V c main_v0 (ix2 0 k) := by
  blk_simp [blk]; congr 1; blk_ext [idx3]
theorem blk4 (t : Fin cfg3.N) (k : Fin 128) : blk V c 4 t (ix2 0 k) = V c main_v1 (ix2 0 k) := by
  blk_simp [blk]; congr 1; blk_ext [idx4]
theorem blk5 (t : Fin cfg3.N) (o : Fin 256) (k : Fin 384) : blk V c 5 t (ix2 o k) = V c main_v11 (ix2 o k) := by
  blk_simp [blk]; congr 1; blk_ext [idx5]
theorem blk6 (t : Fin cfg3.N) (o : Fin 256) : blk V c 6 t (ix2 0 o) = V c main_v12 (ix2 0 o) := by
  blk_simp [blk]; congr 1; blk_ext [idx6]
theorem blk7 (t : Fin cfg3.N) (r : Fin 8192) (j : Fin 256) :
    blk V c 7 t (ix2 r j) = V c main_v18_0 (ix2 (Model.at4 (pt t) r) j) := by
  blk_simp [blk]; congr 1; blk_ext [idx7]; rfl
theorem blk8 (t : Fin cfg3.N) (p : Fin 4) (j : Fin 256) : blk V c 8 t (ix3 p 0 j) = V c main_v18_1 (ix3 p 0 j) := by
  blk_simp [blk]; congr 1; blk_ext [idx8]
theorem blk9 (t : Fin cfg3.N) (p : Fin 4) (j : Fin 256) : blk V c 9 t (ix3 p 0 j) = V c main_v18_2 (ix3 p 0 j) := by
  blk_simp [blk]; congr 1; blk_ext [idx9]
theorem blk10 (t : Fin cfg3.N) (j : Fin 256) : blk V c 10 t (ix2 0 j) = V c main_v2 (ix2 0 j) := by
  blk_simp [blk]; congr 1; blk_ext [idx10]
theorem blk11 (t : Fin cfg3.N) (j : Fin 256) : blk V c 11 t (ix2 0 j) = V c main_v3 (ix2 0 j) := by
  blk_simp [blk]; congr 1; blk_ext [idx11]
theorem emb12 (t : Fin cfg3.N) (n : Fin 4) (o : Fin 256) (l : Fin 2048) :
    (win3_12.blk t).view.emb (ix3 n o l) = ix3 ⟨(pt t).val * 4 + n.val, by omega⟩ o l := by blk_ext [idx12]; rfl

section Arrays
attribute [local irreducible] Model.sum0 Model.sq0 Model.partSum Model.partSq conv

variable (X : Fin 16 → Fin 128 → Fin 2048 → ℝ) (g0 b0 : Fin 128 → ℝ) (W : Fin 256 → Fin 128 → Fin 3 → EReal)
  (bias : Fin 256 → EReal) (Y : Fin 32768 → Fin 256 → ℝ) (g b : Fin 256 → ℝ)

/-- What the region needs of the buffers it reads. -/
structure Entry : Prop where
  x : ∀ n k l, V c main_arg0 (ix3 n k l) = ((X n k l : ℝ) : EReal)
  s : ∀ k, V c main_v13_1 (ix2 k 0) = ((Model.sum0 X k : ℝ) : EReal)
  q : ∀ k, V c main_v13_2 (ix2 k 0) = ((Model.sq0 X k : ℝ) : EReal)
  g0 : ∀ k, V c main_v0 (ix2 0 k) = ((g0 k : ℝ) : EReal)
  b0 : ∀ k, V c main_v1 (ix2 0 k) = ((b0 k : ℝ) : EReal)
  w : ∀ o (k : Fin 384), V c main_v11 (ix2 o k) = W o ⟨k.val % 128, by omega⟩ ⟨k.val / 128, by omega⟩
  e : ∀ o, V c main_v12 (ix2 0 o) = bias o
  y : ∀ r j, V c main_v18_0 (ix2 r j) = ((Y r j : ℝ) : EReal)
  p : ∀ t j, V c main_v18_1 (ix3 t 0 j) = ((Model.partSum Y t j : ℝ) : EReal)
  r : ∀ t j, V c main_v18_2 (ix3 t 0 j) = ((Model.partSq Y t j : ℝ) : EReal)
  g : ∀ k, V c main_v2 (ix2 0 k) = ((g k : ℝ) : EReal)
  b : ∀ k, V c main_v3 (ix2 0 k) = ((b k : ℝ) : EReal)

/-- The numbers of grid point `t`. -/
def nums (t : Fin 4) : Nums :=
  { x := fun n k l => X ⟨t.val * 4 + n.val, by omega⟩ k l, s0 := Model.sum0 X, q0 := Model.sq0 X, g0 := g0, b0 := b0, w := W,
    e := bias, y := fun r j => Y (Model.at4 t r) j, p := Model.partSum Y, q := Model.partSq Y, g := g, b := b }

/-- A block's result is the whole result's. -/
theorem nums_res (t : Fin 4) (n : Fin 4) (o : Fin 256) (l : Fin 2048) :
    (nums X g0 b0 W bias Y g b t).res n o l
      = result W bias (Model.xn X g0 b0) (Model.relu (Model.bn Y g b)) (ix3 ⟨t.val * 4 + n.val, by omega⟩ o l) := by
  unfold Nums.res result
  refine congrArg₂ (· + ·) rfl (congrArg Real.toEReal ?_)
  unfold Nums.sc Nums.sh Model.relu Model.bn
  have e : Model.at4 t ⟨n.val * 2048 + (o.val * 8 + l.val / 256), by omega⟩
      = ⟨(t.val * 4 + n.val) * 2048 + o.val * 8 + l.val / 256, by omega⟩ := Fin.ext (by simp only [Model.at4]; omega)
  have es := Model.sum_part Y ⟨l.val % 256, by omega⟩
  have eq := Model.sum_partSq Y ⟨l.val % 256, by omega⟩
  show max (Y (Model.at4 t ⟨n.val * 2048 + (o.val * 8 + l.val / 256), by omega⟩) ⟨l.val % 256, by omega⟩
    * Model.scale (∑ t, Model.partSum Y t ⟨l.val % 256, by omega⟩) (∑ t, Model.partSq Y t ⟨l.val % 256, by omega⟩)
        (g ⟨l.val % 256, by omega⟩)
    + Model.shift (∑ t, Model.partSum Y t ⟨l.val % 256, by omega⟩) (∑ t, Model.partSq Y t ⟨l.val % 256, by omega⟩)
        (g ⟨l.val % 256, by omega⟩) (b ⟨l.val % 256, by omega⟩)) 0 = _
  rw [es, eq, e]
  rfl

variable (h : Entry V c X g0 b0 W bias Y g b)
include h

theorem holds (t : Fin cfg3.N) : Holds (nums X g0 b0 W bias Y g b (pt t)) (blk V c 0 t) (blk V c 1 t) (blk V c 2 t)
    (blk V c 3 t) (blk V c 4 t) (blk V c 5 t) (blk V c 6 t) (blk V c 7 t) (blk V c 8 t) (blk V c 9 t) (blk V c 10 t)
    (blk V c 11 t) where
  h0 n k l := (blk0 V c t n k l).trans (h.x _ k l)
  h1 k := (blk1 V c t k).trans (h.s k)
  h2 k := (blk2 V c t k).trans (h.q k)
  h3 k := (blk3 V c t k).trans (h.g0 k)
  h4 k := (blk4 V c t k).trans (h.b0 k)
  h5 o k := (blk5 V c t o k).trans (h.w o k)
  h6 o := (blk6 V c t o).trans (h.e o)
  h7 r j := (blk7 V c t r j).trans (h.y _ j)
  h8 p j := (blk8 V c t p j).trans (h.p p j)
  h9 p j := (blk9 V c t p j).trans (h.r p j)
  h10 j := (blk10 V c t j).trans (h.g j)
  h11 j := (blk11 V c t j).trans (h.b j)
  r0 k := Model.rad0_pos X k
  r1 j := by
    show 0 < Model.rad (∑ t, Model.partSum Y t j) (∑ t, Model.partSq Y t j)
    rw [Model.sum_part, Model.sum_partSq]; exact Model.radCol_pos Y j

theorem block12 (t : Fin cfg3.N) (n : Fin 4) (o : Fin 256) (l : Fin 2048) : (dat V c).after 12 t (ix3 n o l)
    = result W bias (Model.xn X g0 b0) (Model.relu (Model.bn Y g b)) (ix3 ⟨(pt t).val * 4 + n.val, by omega⟩ o l) := by
  rw [after_12, ← nums_res]
  exact out_coe (holds V c X g0 b0 W bias Y g b h t) n o l

theorem arr12 : (dat V c).arrAt 12 cfg3.N = result W bias (Model.xn X g0 b0) (Model.relu (Model.bn Y g b)) := by
  refine (dat V c).arrAt_eq_of_covers 12 (result W bias (Model.xn X g0 b0) (Model.relu (Model.bn Y g b))) (by decide +kernel)
    fun t hf y => ?_
  blk_simp
  idx_vars y
  exact (block12 V c X g0 b0 W bias Y g b h t _ _ _).trans
    (congrArg (result W bias (Model.xn X g0 b0) (Model.relu (Model.bn Y g b))) (emb12 t _ _ _)).symm

end Arrays

end Cert.KernelIdeal.Tail
end
-- ==== Proof.Value.Kernel.lean ====
/-
  What the kernel leaves in its result: the regions' arrays one after another, from the arguments' real numbers.
-/
module

public import proofs.«01_k».proof.Proof.Value.Data
public import proofs.«01_k».proof.Proof.Value.Host
public import proofs.«01_k».proof.Proof.Value.Front
public import proofs.«01_k».proof.Proof.Value.Mid1
public import proofs.«01_k».proof.Proof.Value.Mid
public import proofs.«01_k».proof.Proof.Value.Tail

@[expose] public section

set_option maxRecDepth 16384

noncomputable section

namespace Cert.KernelIdeal.Whole

open Cert.KernelIdeal.Gen Cert.KernelIdeal.Run Cert.Kit
open Idealize.ShloMosaic Idealize.ShloMosaic.TcCoe

attribute [local irreducible] Model.seg Model.segSq Model.sum0 Model.sq0 Model.raw Model.partSum Model.partSq conv Model.linear
  Model.bn Model.xn

variable (m : (ℓ : Loc nD τ sig) → Buf (Elt Ideal) ℓ) (ρ : Dev nD → PrngReg) (c : Dev nD)

/-! ## What reaches a region unchanged -/

/-- What the first stretch writes for the later regions. -/
abbrev kept : List (Ref sig .tc) := [main_v0, main_v1, main_v2, main_v3, main_v11, main_v12]
/-- What the first region writes for the last. -/
abbrev sums : List (Ref sig .tc) := [main_v13_1, main_v13_2]

theorem kept0 : ∀ a ∈ kept, ∀ w : Fin cfg0.W, Pipeline.arrRef spec0 w = a → (cfg0.win w).isOut = false :=
  ListAll.forall_mem_of_all_decide (by decide +kernel)
theorem kept1 : ∀ a ∈ kept ++ sums, ∀ w : Fin cfg1.W, Pipeline.arrRef spec1 w = a → (cfg1.win w).isOut = false :=
  ListAll.forall_mem_of_all_decide (by decide +kernel)
theorem kept2 : ∀ a ∈ kept ++ sums, ∀ w : Fin cfg2.W, Pipeline.arrRef spec2 w = a → (cfg2.win w).isOut = false :=
  ListAll.forall_mem_of_all_decide (by decide +kernel)
theorem host1 : ∀ a ∈ kept ++ sums, a ∉ wrote1 := ListAll.forall_mem_of_all_decide (by decide +kernel)
theorem host2 : ∀ a ∈ kept ++ sums, a ∉ wrote2 := ListAll.forall_mem_of_all_decide (by decide +kernel)

theorem arg1 (a : Ref sig .tc) (ha : a ∈ args) : W1 m ρ c (Proc.devRef .tc a) = m ((c : Thread nD τ).loc a) :=
  W1_of m ρ c a (keeps0 a ha)
theorem arg2 (a : Ref sig .tc) (ha : a ∈ args) : W2 m ρ c (Proc.devRef .tc a) = m ((c : Thread nD τ).loc a) :=
  (W2_of m ρ c a (reads0 a ha)).trans (arg1 m ρ c a ha)
theorem arg3 (a : Ref sig .tc) (ha : a ∈ args) : W3 m ρ c (Proc.devRef .tc a) = m ((c : Thread nD τ).loc a) :=
  (W3_of m ρ c a (keeps1 a ha)).trans (arg2 m ρ c a ha)
theorem arg4 (a : Ref sig .tc) (ha : a ∈ args) : W4 m ρ c (Proc.devRef .tc a) = m ((c : Thread nD τ).loc a) :=
  (W4_of m ρ c a (reads1 a ha)).trans (arg3 m ρ c a ha)
theorem arg5 (a : Ref sig .tc) (ha : a ∈ args) : W5 m ρ c (Proc.devRef .tc a) = m ((c : Thread nD τ).loc a) :=
  (W5_of m ρ c a (keeps2 a ha)).trans (arg4 m ρ c a ha)
theorem arg6 (a : Ref sig .tc) (ha : a ∈ args) : W6 m ρ c (Proc.devRef .tc a) = m ((c : Thread nD τ).loc a) :=
  (W6_of m ρ c a (reads2 a ha)).trans (arg5 m ρ c a ha)

theorem vec3 (a : Ref sig .tc) (ha : a ∈ kept) : W3 m ρ c (Proc.devRef .tc a) = W1 m ρ c (Proc.devRef .tc a) :=
  (W3_of m ρ c a (host1 a (List.mem_append_left _ ha))).trans (W2_of m ρ c a (kept0 a ha))
theorem both5 (a : Ref sig .tc) (ha : a ∈ kept ++ sums) : W5 m ρ c (Proc.devRef .tc a) = W3 m ρ c (Proc.devRef .tc a) :=
  (W5_of m ρ c a (host2 a ha)).trans (W4_of m ρ c a (kept1 a ha))
theorem both6 (a : Ref sig .tc) (ha : a ∈ kept ++ sums) : W6 m ρ c (Proc.devRef .tc a) = W3 m ρ c (Proc.devRef .tc a) :=
  (W6_of m ρ c a (kept2 a ha)).trans (both5 m ρ c a ha)
theorem vec5 (a : Ref sig .tc) (ha : a ∈ kept) : W5 m ρ c (Proc.devRef .tc a) = W1 m ρ c (Proc.devRef .tc a) :=
  (both5 m ρ c a (List.mem_append_left _ ha)).trans (vec3 m ρ c a ha)
theorem vec6 (a : Ref sig .tc) (ha : a ∈ kept) : W6 m ρ c (Proc.devRef .tc a) = W1 m ρ c (Proc.devRef .tc a) :=
  (both6 m ρ c a (List.mem_append_left _ ha)).trans (vec3 m ρ c a ha)

/-! ## The regions' entries -/

variable (D : Data)
  (h : D.Reads (m ((c : Thread nD τ).loc main_arg0)) (m ((c : Thread nD τ).loc main_arg3)) (m ((c : Thread nD τ).loc main_arg4))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13)) (m ((c : Thread nD τ).loc main_arg14)))
include h

theorem g0 (k : Fin 128) : W1 m ρ c (Proc.devRef .tc main_v0) (ix2 0 k) = ((D.g0 k : ℝ) : EReal) :=
  (Host.v0 _ k).trans (h.g0 k)
theorem b0 (k : Fin 128) : W1 m ρ c (Proc.devRef .tc main_v1) (ix2 0 k) = ((D.b0 k : ℝ) : EReal) :=
  (Host.v1 _ k).trans (h.b0 k)
theorem g (k : Fin 256) : W1 m ρ c (Proc.devRef .tc main_v2) (ix2 0 k) = ((D.g k : ℝ) : EReal) :=
  (Host.v2 _ k).trans (h.g k)
theorem b (k : Fin 256) : W1 m ρ c (Proc.devRef .tc main_v3) (ix2 0 k) = ((D.b k : ℝ) : EReal) :=
  (Host.v3 _ k).trans (h.b k)

theorem entry0 : Front.Entry (tcOf (W1 m ρ)) c D.X D.w1 where
  x n k l := (congrFun (arg1 m ρ c main_arg0 (by decide)) _).trans (h.x n k l)
  w j k := (congrFun (arg1 m ρ c main_arg7 (by decide)) _).trans (h.w1 j k)

/-- A channel's sum and sum of squares, as the first region leaves them. -/
theorem sum3 (k : Fin 128) : W3 m ρ c (Proc.devRef .tc main_v13_1) (ix2 k 0) = ((Model.sum0 D.X k : ℝ) : EReal) :=
  (congrFun ((W3_of m ρ c main_v13_1 (by decide)).trans ((W2_arr m ρ c 3).trans (Front.arr3 _ c D.X D.w1 (entry0 m ρ c D h)))) _).trans rfl
theorem sq3 (k : Fin 128) : W3 m ρ c (Proc.devRef .tc main_v13_2) (ix2 k 0) = ((Model.sq0 D.X k : ℝ) : EReal) :=
  (congrFun ((W3_of m ρ c main_v13_2 (by decide)).trans ((W2_arr m ρ c 4).trans (Front.arr4 _ c D.X D.w1 (entry0 m ρ c D h)))) _).trans rfl

theorem entry1 : Mid1.Entry (tcOf (W3 m ρ)) c D.X D.g0 D.b0 D.w1 D.e1 D.g D.b D.w2 D.e2 where
  u r k := (congrFun ((W3_of m ρ c main_v13_0 (by decide)).trans
    ((W2_arr m ρ c 2).trans (Front.arr2 _ c D.X D.w1 (entry0 m ρ c D h)))) _).trans rfl
  s k := sum3 m ρ c D h k
  q k := sq3 m ρ c D h k
  g0 k := (congrFun (vec3 m ρ c main_v0 (by decide)) _).trans (g0 m ρ c D h k)
  b0 k := (congrFun (vec3 m ρ c main_v1 (by decide)) _).trans (b0 m ρ c D h k)
  u1 k j := (congrFun ((W3_of m ρ c main_v13_3 (by decide)).trans
    ((W2_arr m ρ c 5).trans (Front.arr5 _ c D.X D.w1 (entry0 m ρ c D h)))) _).trans rfl
  u2 k j := (congrFun ((W3_of m ρ c main_v13_4 (by decide)).trans
    ((W2_arr m ρ c 6).trans (Front.arr6 _ c D.X D.w1 (entry0 m ρ c D h)))) _).trans rfl
  w1 j k := (congrFun (arg3 m ρ c main_arg7 (by decide)) _).trans (h.w1 j k)
  b1 k := (Host.v14 _ k).trans ((congrFun (arg2 m ρ c main_arg8 (by decide)) _).trans (h.e1 k))
  g k := (congrFun (vec3 m ρ c main_v2 (by decide)) _).trans (g m ρ c D h k)
  b k := (congrFun (vec3 m ρ c main_v3 (by decide)) _).trans (b m ρ c D h k)
  w2 j k := (congrFun (arg3 m ρ c main_arg11 (by decide)) _).trans (h.w2 j k)
  b2 k := (Host.v15 _ k).trans ((congrFun (arg2 m ρ c main_arg12 (by decide)) _).trans (h.e2 k))

theorem entry2 : Mid.Entry (tcOf (W5 m ρ)) c D.y2 D.g D.b D.w3 D.e3 where
  y r k := (congrFun ((W5_of m ρ c main_v16_0 (by decide)).trans
    ((W4_arr m ρ c 13).trans (Mid1.arr13 _ c D.X D.g0 D.b0 D.w1 D.e1 D.g D.b D.w2 D.e2 (entry1 m ρ c D h)))) _).trans rfl
  s t k := (congrFun ((W5_of m ρ c main_v16_1 (by decide)).trans
    ((W4_arr m ρ c 14).trans (Mid1.arr14 _ c D.X D.g0 D.b0 D.w1 D.e1 D.g D.b D.w2 D.e2 (entry1 m ρ c D h)))) _).trans rfl
  q t k := (congrFun ((W5_of m ρ c main_v16_2 (by decide)).trans
    ((W4_arr m ρ c 15).trans (Mid1.arr15 _ c D.X D.g0 D.b0 D.w1 D.e1 D.g D.b D.w2 D.e2 (entry1 m ρ c D h)))) _).trans rfl
  g k := (congrFun (vec5 m ρ c main_v2 (by decide)) _).trans (g m ρ c D h k)
  b k := (congrFun (vec5 m ρ c main_v3 (by decide)) _).trans (b m ρ c D h k)
  w j k := (congrFun (arg5 m ρ c main_arg13 (by decide)) _).trans (h.w3 j k)
  e k := (Host.v17 _ k).trans ((congrFun (arg4 m ρ c main_arg14 (by decide)) _).trans (h.e3 k))

theorem entry3 : Tail.Entry (tcOf (W6 m ρ)) c D.X D.g0 D.b0 (fun o k t => m ((c : Thread nD τ).loc main_arg5) (ix3 o k t))
    (fun o => m ((c : Thread nD τ).loc main_arg6) (ix1 o)) D.y3 D.g D.b where
  x n k l := (congrFun (arg6 m ρ c main_arg0 (by decide)) _).trans (h.x n k l)
  s k := (congrFun (both6 m ρ c main_v13_1 (by decide)) _).trans (sum3 m ρ c D h k)
  q k := (congrFun (both6 m ρ c main_v13_2 (by decide)) _).trans (sq3 m ρ c D h k)
  g0 k := (congrFun (vec6 m ρ c main_v0 (by decide)) _).trans (g0 m ρ c D h k)
  b0 k := (congrFun (vec6 m ρ c main_v1 (by decide)) _).trans (b0 m ρ c D h k)
  w o k := (congrFun (vec6 m ρ c main_v11 (by decide)) _).trans (Host.v11 _ o k)
  e o := (congrFun (vec6 m ρ c main_v12 (by decide)) _).trans (Host.v12 _ o)
  y r j := (congrFun ((W6_arr m ρ c 7).trans (Mid.arr7 _ c D.y2 D.g D.b D.w3 D.e3 (entry2 m ρ c D h))) _).trans rfl
  p t j := (congrFun ((W6_arr m ρ c 8).trans (Mid.arr8 _ c D.y2 D.g D.b D.w3 D.e3 (entry2 m ρ c D h))) _).trans rfl
  r t j := (congrFun ((W6_arr m ρ c 9).trans (Mid.arr9 _ c D.y2 D.g D.b D.w3 D.e3 (entry2 m ρ c D h))) _).trans rfl
  g k := (congrFun (vec6 m ρ c main_v2 (by decide)) _).trans (g m ρ c D h k)
  b k := (congrFun (vec6 m ρ c main_v3 (by decide)) _).trans (b m ρ c D h k)

/-- The result the kernel leaves. -/
theorem result : W7 m ρ c (Proc.devRef .tc main_v19)
    = D.out (m ((c : Thread nD τ).loc main_arg5)) (m ((c : Thread nD τ).loc main_arg6)) :=
  (W7_arr m ρ c 12).trans (Tail.arr12 _ c D.X D.g0 D.b0 _ _ D.y3 D.g D.b (entry3 m ρ c D h))

end Cert.KernelIdeal.Whole

end
-- ==== Proof.Value.Reference.lean ====
/-
  What the reference computes: each normalisation by the mean and the variance about it, the layers, the convolution over the
  padded length, and the result; all as the same real numbers the kernel's scales, shifts and sums give.
-/
module

public import proofs.«01_k».proof.Proof.Gen.ReferenceIdeal.Run
public import proofs.«01_k».proof.Proof.Value.Data
public import Idealize.ShloMosaic.Lib.Pipeline.ValueKit
public import Idealize.ShloMosaic.Lib.Tactic
public import Idealize.ShloMosaic.Lib.Tactic.CleanTypes

@[expose] public section

set_option maxRecDepth 16384

noncomputable section

namespace Cert.ReferenceIdeal.Whole

open Cert.ReferenceIdeal Cert.ReferenceIdeal.Gen Cert.ReferenceIdeal.Value Cert.Kit
open Idealize.ShloMosaic Idealize.ShloMosaic.TcCoe

/-! ## A normalisation, in real numbers -/

section Scalar
variable {ι : Type*} [Fintype ι] (y : ι → ℝ)

theorem mean_coe : Ideal.div (∑ i, ((y i : ℝ) : EReal)) ((32768 : ℝ) : EReal) = ((Model.mean y : ℝ) : EReal) := by
  rw [Ideal.div_coe (by norm_num), sum_coe, ← EReal.coe_mul]; rfl

theorem var_coe : Ideal.div (∑ i, ((y i - Model.mean y : ℝ) : EReal) * ((y i - Model.mean y : ℝ) : EReal)) ((32768 : ℝ) : EReal)
    = ((Model.var y : ℝ) : EReal) := by
  rw [Ideal.div_coe (by norm_num)]
  simp only [← EReal.coe_mul, sum_coe]; rfl

theorem norm_coe (hN : (Fintype.card ι : ℝ) = 32768) (g b : ℝ) (i : ι) (nan : EReal) :
    Ideal.div ((y i - Model.mean y : ℝ) : EReal) (Ideal.sqrt ((if (0 : EReal) < ((32768 : ℝ) : EReal) then
        Ideal.div (∑ i, ((y i - Model.mean y : ℝ) : EReal) * ((y i - Model.mean y : ℝ) : EReal)) ((32768 : ℝ) : EReal) else nan)
        + ((Model.eps : ℝ) : EReal))) * ((g : ℝ) : EReal) + ((b : ℝ) : EReal)
      = ((y i * Model.scale (∑ i, y i) (∑ i, y i * y i) g + Model.shift (∑ i, y i) (∑ i, y i * y i) g b : ℝ) : EReal) := by
  have hp : 0 < Model.var y + Model.eps := by rw [← Model.rad_eq hN]; exact Model.rad_pos hN y
  rw [if_pos (by exact_mod_cast (by norm_num : (0 : ℝ) < 32768)), var_coe, ← EReal.coe_add, Ideal.sqrt_coe,
    if_neg (not_lt.mpr hp.le), Ideal.div_coe (Real.sqrt_pos.mpr hp).ne', Model.normalise hN]
  simp only [← EReal.coe_mul, ← EReal.coe_add]

end Scalar

theorem zero_word : (FloatOps.sitofp (F := Ideal) .f32 0#32 : EReal) = 0 := by
  simp [FloatOps.sitofp]

/-! ## The columns' normalisation and the linear layer, as the reference writes them -/

section Terms
variable {F : FTy → Type} [FloatOps F]

/-- The number of rows the mean of squares divides by, as the reference computes it. -/
def count (F : FTy → Type) [FloatOps F] : (⟨S_, .f32⟩ : BufTy).Contents (Elt F) :=
  subf (constant S_ .f32 0x47000000#32) (sitofp .f32 (constantI S_ 32 0#32))

variable (Y : (⟨S32768x256, .f32⟩ : BufTy).Contents (Elt F)) (g b : (⟨S256, .f32⟩ : BufTy).Contents (Elt F))

/-- The rows less their columns' means. -/
def centred : (⟨S32768x256, .f32⟩ : BufTy).Contents (Elt F) :=
  subf Y (broadcastInDim S32768x256 ![0, 1] bcast_S1x256_S32768x256_0_1 (Host.divf (broadcastInDim S1x256 ![1] bcast_S256_S1x256_1
    (Host.reduceAdd Y (constant S_ .f32 0x00000000#32) reducesTo_S32768x256_S256_d0 h_S_))
    (broadcastInDim S1x256 ![] bcast_S_S1x256 (constant S_ .f32 0x47000000#32))))

/-- The columns normalised, and negative entries replaced by zero. -/
def normalised : (⟨S32768x256, .f32⟩ : BufTy).Contents (Elt F) :=
  maximumf (addf (mulf (Host.divf (centred Y) (broadcastInDim S32768x256 ![0, 1] bcast_S1x256_S32768x256_0_1 (Host.sqrt (addf
    (select (broadcastInDim S1x256 ![] bcast_S_S1x256 (cmpf .ogt (count F) (constant S_ .f32 0x00000000#32)))
      (Host.divf (broadcastInDim S1x256 ![1] bcast_S256_S1x256_1
          (Host.reduceAdd (mulf (centred Y) (centred Y)) (constant S_ .f32 0x00000000#32) reducesTo_S32768x256_S256_d0 h_S_))
        (broadcastInDim S1x256 ![] bcast_S_S1x256 (count F)))
      (broadcastInDim S1x256 ![] bcast_S_S1x256 (id (constant S_ .f32 0x7FC00000#32))))
    (broadcastInDim S1x256 ![] bcast_S_S1x256 (constant S_ .f32 0x3727C5AC#32))))))
    (broadcastInDim S32768x256 ![0, 1] bcast_S1x256_S32768x256_0_1 (broadcastInDim S1x256 ![1] bcast_S256_S1x256_1 g)))
    (broadcastInDim S32768x256 ![0, 1] bcast_S1x256_S32768x256_0_1 (broadcastInDim S1x256 ![1] bcast_S256_S1x256_1 b)))
    (broadcastInDim S32768x256 ![] bcast_S_S32768x256 (constant S_ .f32 0x00000000#32))

/-- A linear layer from 256 columns to 256. -/
def dense (w : (⟨S256x256, .f32⟩ : BufTy).Contents (Elt F)) (e : (⟨S256, .f32⟩ : BufTy).Contents (Elt F)) :
    (⟨S32768x256, .f32⟩ : BufTy).Contents (Elt F) :=
  addf (Host.dotGeneral dot_S32768x256_S256x256_S32768x256_1_0_0_1_n_n none Y
      (transpose S256x256 [1, 0] w transposes_S256x256_S256x256_1_0))
    (broadcastInDim S32768x256 ![0, 1] bcast_S1x256_S32768x256_0_1 (broadcastInDim S1x256 ![1] bcast_S256_S1x256_1 e))

/-- The rows cut into the result's shape and back. -/
def recut : (⟨S32768x256, .f32⟩ : BufTy).Contents (Elt F) :=
  shapeCast _ (shapeCast _ (shapeCast S16x256x2048 Y shapeCasts_S32768x256_S16x256x2048) shapeCasts_S16x256x2048_S16x2048x256)
    shapeCasts_S16x2048x256_S32768x256

/-- The convolution over the padded length, its bias, and negative values replaced by zero. -/
def skip (p : (⟨S16x128x2050, .f32⟩ : BufTy).Contents (Elt F)) (w : (⟨S256x128x3, .f32⟩ : BufTy).Contents (Elt F))
    (e : (⟨S256, .f32⟩ : BufTy).Contents (Elt F)) : (⟨S16x256x2048, .f32⟩ : BufTy).Contents (Elt F) :=
  maximumf (addf (addf (addf (addf (broadcastInDim S16x256x2048 ![] bcast_S_S16x256x2048 (constant S_ .f32 0x00000000#32))
    (transpose S16x256x2048 [0, 2, 1] (Host.dotGeneral dot_S16x128x2048_S256x128_S16x2048x256_1_1_02_0_n_n none
      (extractStridedSlice S16x128x2048 ![0, 0, 0] p slices_S16x128x2050_S16x128x2048_0_0_0)
      (shapeCast _ (extractStridedSlice S256x128x1 ![0, 0, 0] w slices_S256x128x3_S256x128x1_0_0_0) shapeCasts_S256x128x1_S256x128))
      transposes_S16x2048x256_S16x256x2048_0_2_1))
    (transpose S16x256x2048 [0, 2, 1] (Host.dotGeneral dot_S16x128x2048_S256x128_S16x2048x256_1_1_02_0_n_n none
      (extractStridedSlice S16x128x2048 ![0, 0, 1] p slices_S16x128x2050_S16x128x2048_0_0_1)
      (shapeCast _ (extractStridedSlice S256x128x1 ![0, 0, 1] w slices_S256x128x3_S256x128x1_0_0_1) shapeCasts_S256x128x1_S256x128))
      transposes_S16x2048x256_S16x256x2048_0_2_1))
    (transpose S16x256x2048 [0, 2, 1] (Host.dotGeneral dot_S16x128x2048_S256x128_S16x2048x256_1_1_02_0_n_n none
      (extractStridedSlice S16x128x2048 ![0, 0, 2] p slices_S16x128x2050_S16x128x2048_0_0_2)
      (shapeCast _ (extractStridedSlice S256x128x1 ![0, 0, 2] w slices_S256x128x3_S256x128x1_0_0_2) shapeCasts_S256x128x1_S256x128))
      transposes_S16x2048x256_S16x256x2048_0_2_1))
    (broadcastInDim S16x256x2048 ![0, 1, 2] bcast_S1x256x1_S16x256x2048_0_1_2 (broadcastInDim S1x256x1 ![1] bcast_S256_S1x256x1_1 e)))
    (broadcastInDim S16x256x2048 ![] bcast_S_S16x256x2048 (constant S_ .f32 0x00000000#32))

/-- The rows cut into the result's shape. -/
def cut : (⟨S16x256x2048, .f32⟩ : BufTy).Contents (Elt F) := shapeCast S16x256x2048 Y shapeCasts_S32768x256_S16x256x2048

/-- The result. -/
def final (V : Valuation τ sig (Elt F)) : (⟨S16x256x2048, .f32⟩ : BufTy).Contents (Elt F) :=
  addf (skip (res_main_v18 V) (V (Proc.devRef .tc main_arg5)) (V (Proc.devRef .tc main_arg6)))
    (cut (normalised (res_main_v98 V) (V (Proc.devRef .tc main_arg9)) (V (Proc.devRef .tc main_arg10))))
end Terms

section Rows
variable (Y : (⟨S32768x256, .f32⟩ : BufTy).Contents (Elt Ideal)) (g b : (⟨S256, .f32⟩ : BufTy).Contents (Elt Ideal))
  (y : Fin 32768 → Fin 256 → ℝ) (hY : ∀ r j, Y (ix2 r j) = ((y r j : ℝ) : EReal))

theorem count_at (i : S_.Idx) : count Ideal i = ((32768 : ℝ) : EReal) := by
  pointwise [count]
  rw [zero_word, lit_count, sub_zero]

theorem recut_eq : recut Y = Y := by
  funext i
  idx_vars i
  pointwise [recut]

theorem skip_at (p : (⟨S16x128x2050, .f32⟩ : BufTy).Contents (Elt Ideal)) (w : (⟨S256x128x3, .f32⟩ : BufTy).Contents (Elt Ideal))
    (e : (⟨S256, .f32⟩ : BufTy).Contents (Elt Ideal)) (Z : Fin 16 → Fin 128 → Fin 2048 → ℝ)
    (hp : ∀ n k (l : Fin 2050), p (ix3 n k l) = ((pad (Z n k) l.val : ℝ) : EReal)) (n : Fin 16) (o : Fin 256) (l : Fin 2048) :
    skip p w e (ix3 n o l) = max (conv (fun k t => w (ix3 o k t)) (Z n) l + e (ix1 o)) 0 := by
  pointwise [skip]
  simp only [hp, conv, Fin.sum_univ_three, mul_comm (w _), Nat.add_comm l.val]
  simp only [Fin.val_zero, Fin.val_one, Fin.val_two, Nat.zero_add]

theorem cut_at (n : Fin 16) (o : Fin 256) (l : Fin 2048) :
    cut Y (ix3 n o l) = Y (ix2 ⟨n.val * 2048 + o.val * 8 + l.val / 256, by omega⟩ ⟨l.val % 256, by omega⟩) := by
  pointwise [cut]

include hY

theorem centred_at (r : Fin 32768) (j : Fin 256) :
    centred Y (ix2 r j) = ((y r j - Model.mean (fun r => y r j) : ℝ) : EReal) := by
  pointwise [centred]
  simp only [hY, lit_count]
  rw [mean_coe fun r => y r j, ← EReal.coe_sub]

theorem normalised_at (gr br : Fin 256 → ℝ) (hg : ∀ j, g (ix1 j) = ((gr j : ℝ) : EReal)) (hb : ∀ j, b (ix1 j) = ((br j : ℝ) : EReal))
    (r : Fin 32768) (j : Fin 256) :
    normalised Y g b (ix2 r j) = ((Model.relu (Model.bn y gr br) r j : ℝ) : EReal) := by
  pointwise [normalised]
  simp only [centred_at Y y hY, count_at, hg, hb, lit_eps]
  rw [norm_coe (fun r => y r j) Model.card_rows (gr j) (br j) r, max_zero_coe]
  rfl

theorem dense_at (w : (⟨S256x256, .f32⟩ : BufTy).Contents (Elt Ideal)) (e : (⟨S256, .f32⟩ : BufTy).Contents (Elt Ideal))
    (wr : Fin 256 → Fin 256 → ℝ) (er : Fin 256 → ℝ) (hw : ∀ j k, w (ix2 j k) = ((wr j k : ℝ) : EReal))
    (he : ∀ j, e (ix1 j) = ((er j : ℝ) : EReal)) (r : Fin 32768) (j : Fin 256) :
    dense Y w e (ix2 r j) = ((Model.linear y wr er r j : ℝ) : EReal) := by
  pointwise [dense]
  simp only [hY, hw, he, ← EReal.coe_mul, sum_coe, ← EReal.coe_add]
  rfl

end Rows

/-! ## The reference's terms -/

variable (V : Valuation τ sig (Elt Ideal))

theorem v71_eq : res_main_v71 V
    = dense (normalised (res_main_v47 V) (V (Proc.devRef .tc main_arg9)) (V (Proc.devRef .tc main_arg10)))
       (V (Proc.devRef .tc main_arg11)) (V (Proc.devRef .tc main_arg12)) := rfl
theorem v98_eq : res_main_v98 V
    = dense (recut (normalised (res_main_v71 V) (V (Proc.devRef .tc main_arg9)) (V (Proc.devRef .tc main_arg10))))
       (V (Proc.devRef .tc main_arg13)) (V (Proc.devRef .tc main_arg14)) := rfl

variable (D : Data)
  (h : D.Reads (V (Proc.devRef .tc main_arg0)) (V (Proc.devRef .tc main_arg3)) (V (Proc.devRef .tc main_arg4))
    (V (Proc.devRef .tc main_arg7)) (V (Proc.devRef .tc main_arg8)) (V (Proc.devRef .tc main_arg9)) (V (Proc.devRef .tc main_arg10))
    (V (Proc.devRef .tc main_arg11)) (V (Proc.devRef .tc main_arg12)) (V (Proc.devRef .tc main_arg13))
    (V (Proc.devRef .tc main_arg14)))
include h

theorem v17 (n : Fin 16) (k : Fin 128) (l : Fin 2048) : res_main_v17 V (ix3 n k l) = ((D.z n k l : ℝ) : EReal) := by
  have hm : Ideal.div (∑ a : Fin 16, ∑ b : Fin 2048, ((D.X a k b : ℝ) : EReal)) ((32768 : ℝ) : EReal)
      = ((Model.mean (fun p : Fin 16 × Fin 2048 => D.X p.1 k p.2) : ℝ) : EReal) := by
    rw [← mean_coe, Fintype.sum_prod_type]
  have e := norm_coe (fun p : Fin 16 × Fin 2048 => D.X p.1 k p.2) Model.card_batch (D.g0 k) (D.b0 k) (n, l)
  simp only [Fintype.sum_prod_type] at e
  unfold res_main_v17 res_main_call0_v5 res_main_call0_v8
  clean_types
  pointwise [hostReduceAdd_a02]
  simp only [h.x, h.g0, h.b0, lit_count, lit_eps, zero_word, sub_zero, hm, ← EReal.coe_sub]
  rw [e]
  rfl

theorem v18 (n : Fin 16) (k : Fin 128) (l : Fin 2050) : res_main_v18 V (ix3 n k l) = ((pad (D.z n k) l.val : ℝ) : EReal) := by
  unfold res_main_v18
  clean_types
  pointwise
  by_cases hl : 1 ≤ l.val ∧ l.val - 1 < 2048
  · rw [dif_pos hl, v17 V D h, pad_in _ ⟨l.val - 1, hl.2⟩ (by simp only []; omega)]
  · rw [dif_neg hl, zero_word, pad_out _ (by omega)]; rfl

theorem v47 (r : Fin 32768) (j : Fin 256) : res_main_v47 V (ix2 r j) = ((D.y1 r j : ℝ) : EReal) := by
  unfold res_main_v47
  clean_types
  pointwise
  simp only [v17 V D h, h.w1, h.e1, ← EReal.coe_mul, sum_coe, ← EReal.coe_add]
  unfold Data.y1 Model.linear Model.rows
  refine congrArg Real.toEReal (congrArg (· + D.e1 j) (Finset.sum_congr rfl fun x _ => congrArg (· * D.w1 j x) ?_))
  have e : (⟨r.val / 16 % 128, by omega⟩ : Fin 128) = Model.chan r := Fin.ext (by simp only [Model.chan]; omega)
  show D.z (Model.bat r) ⟨r.val / 16 % 128, _⟩ (Model.pos r x) = _
  rw [e]

theorem v71 (r : Fin 32768) (j : Fin 256) : res_main_v71 V (ix2 r j) = ((D.y2 r j : ℝ) : EReal) := by
  rw [v71_eq]
  exact dense_at _ _ (normalised_at _ _ _ _ (v47 V D h) _ _ h.g h.b) _ _ _ _ h.w2 h.e2 r j

theorem v98 (r : Fin 32768) (j : Fin 256) : res_main_v98 V (ix2 r j) = ((D.y3 r j : ℝ) : EReal) := by
  rw [v98_eq, recut_eq]
  exact dense_at _ _ (normalised_at _ _ _ _ (v71 V D h) _ _ h.g h.b) _ _ _ _ h.w3 h.e3 r j

theorem last (r : Fin 32768) (j : Fin 256) :
    normalised (res_main_v98 V) (V (Proc.devRef .tc main_arg9)) (V (Proc.devRef .tc main_arg10)) (ix2 r j)
      = ((D.h r j : ℝ) : EReal) :=
  normalised_at _ _ _ _ (v98 V D h) _ _ h.g h.b r j

theorem result : final V = D.out (V (Proc.devRef .tc main_arg5)) (V (Proc.devRef .tc main_arg6)) := by
  funext i
  clean_types
  idx_vars i
  show skip (res_main_v18 V) (V (Proc.devRef .tc main_arg5)) (V (Proc.devRef .tc main_arg6)) (ix3 i0 i1 i2)
    + cut (normalised (res_main_v98 V) (V (Proc.devRef .tc main_arg9)) (V (Proc.devRef .tc main_arg10))) (ix3 i0 i1 i2) = _
  rw [skip_at _ _ _ D.z (v18 V D h), cut_at, last V D h]
  rfl

end Cert.ReferenceIdeal.Whole

end
-- ==== Proof.Value.Equation.lean ====
/-
  The equation: the kernel's result and the reference's are the one array of the real numbers the arguments hold.
-/
module

public import proofs.«01_k».proof.Defs
public import proofs.«01_k».proof.Proof.Run
public import proofs.«01_k».proof.Proof.Value.Pre
public import proofs.«01_k».proof.Proof.Value.Kernel
public import proofs.«01_k».proof.Proof.Value.Reference

@[expose] public section

noncomputable section

namespace Cert.Equation

open Idealize.ShloMosaic Idealize.ShloMosaic.TcCoe Idealize.SL.Sem Cert.Kit

/-! ## The kernel -/

section Kernel
open Cert.KernelIdeal Cert.KernelIdeal.Gen

variable (m : (ℓ : Loc nD τ sig) → Buf (Elt Ideal) ℓ) (c : Dev nD)

/-- The real numbers of one device's arguments. -/
def data : Data :=
  Cert.Pre_finite_inputs.data
    (m ((c.tc : Thread Cert.KernelIdeal.nD Cert.KernelIdeal.τ).loc Cert.KernelIdeal.main_arg0))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))

/-- The result they give. -/
def out : Buf (Elt Ideal) ((c.tc : Thread nD τ).loc main_v19) :=
  (data m c).out (m ((c.tc : Thread nD τ).loc main_arg5)) (m ((c.tc : Thread nD τ).loc main_arg6))

theorem reads (h : Cert.Pre_KernelIdeal_finite_inputs (hPre_finite_inputs := Cert.Pre_finite_inputs.facts) m) :
    (data m c).Reads
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)) :=
  Cert.Pre_finite_inputs.reads _ _ _ _ _ _ _ _ _ _ _ _ _ _ _ (h c)

/-- The kernel ends with that result and its arguments as launched. -/
theorem kernel (ρ : Dev nD → PrngReg)
    (h : Cert.Pre_KernelIdeal_finite_inputs (hPre_finite_inputs := Cert.Pre_finite_inputs.facts) m) :
    θ_run defs (onTc (τ := τ) (main (F := Ideal))) ⟨m, fun _ => 0, ρ⟩ (fun r => ∀ c : Dev nD,
      r.2.mem ((c.tc : Thread nD τ).loc main_v19) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r hr c => by
    have e := fun a ha => Run.end_arg m ρ hr.1 c a ha
    exact ⟨(Run.end_at m ρ hr.1 c main_v19 (by decide)).trans (Whole.result m ρ c (data m c) (reads m c h)),
      e main_arg0 (by decide), e main_arg1 (by decide), e main_arg2 (by decide), e main_arg3 (by decide), e main_arg4 (by decide), e main_arg5 (by decide), e main_arg6 (by decide), e main_arg7 (by decide), e main_arg8 (by decide), e main_arg9 (by decide), e main_arg10 (by decide), e main_arg11 (by decide), e main_arg12 (by decide), e main_arg13 (by decide), e main_arg14 (by decide)⟩) (Run.ends m ρ)

end Kernel

/-! ## The reference -/

section Reference
open Cert.ReferenceIdeal Cert.ReferenceIdeal.Gen

/-- The reference ends with the result of any real numbers its arguments hold. -/
theorem reference (m' : (ℓ : Loc nD τ sig) → Buf (Elt Ideal) ℓ) (ρ : Dev nD → PrngReg) (D : Dev nD → Data)
    (h : ∀ c : Dev nD, (D c).Reads
      (m' ((c.tc : Thread nD τ).loc main_arg0))
      (m' ((c.tc : Thread nD τ).loc main_arg3))
      (m' ((c.tc : Thread nD τ).loc main_arg4))
      (m' ((c.tc : Thread nD τ).loc main_arg7))
      (m' ((c.tc : Thread nD τ).loc main_arg8))
      (m' ((c.tc : Thread nD τ).loc main_arg9))
      (m' ((c.tc : Thread nD τ).loc main_arg10))
      (m' ((c.tc : Thread nD τ).loc main_arg11))
      (m' ((c.tc : Thread nD τ).loc main_arg12))
      (m' ((c.tc : Thread nD τ).loc main_arg13))
      (m' ((c.tc : Thread nD τ).loc main_arg14))) :
    θ_run defs (onTc (τ := τ) (main (F := Ideal))) ⟨m', fun _ => 0, ρ⟩ (fun r => ∀ c : Dev nD,
      r.2.mem ((c.tc : Thread nD τ).loc main_v119)
        = (D c).out (m' ((c.tc : Thread nD τ).loc main_arg5)) (m' ((c.tc : Thread nD τ).loc main_arg6))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)) :=
  (θ_run defs _ _).mono
    (fun r hr c => ⟨(hr c).1.trans (Whole.result (StableHlo.launchContents m' c) (D c) (h c)), (hr c).2⟩) (Value.run m' ρ)

end Reference

/-- From memories that agree on the arguments, the two end with one result. -/
theorem algebraic : Cert.algebraic_KernelIdeal_ReferenceIdeal_pre_finite_inputs
    (hKernelIdeal := Cert.KernelIdeal.Gen.facts) (hReferenceIdeal := Cert.ReferenceIdeal.Gen.facts)
    (hPre_finite_inputs := Cert.Pre_finite_inputs.facts) := by
  intro m g m' g' hp ha
  refine ⟨out m, kernel m g hp, ?_⟩
  refine (θ_run _ _ _).mono (fun r hr c => ⟨(hr c).1.trans ?_, (hr c).2⟩) (reference m' g' (data m) fun c => ?_)
  · obtain ⟨h0, h1, h2, h3, h4, h5, h6, h7, h8, h9, h10, h11, h12, h13, h14⟩ := ha c
    rw [h0, h3, h4, h7, h8, h9, h10, h11, h12, h13, h14]
    exact reads m c hp
  · obtain ⟨h0, h1, h2, h3, h4, h5, h6, h7, h8, h9, h10, h11, h12, h13, h14⟩ := ha c
    rw [h5, h6]
    rfl

end Cert.Equation

end
-- ==== Proof.lean ====
/- The claims of this directory, assembled: the three frames, the idealization, and the value claim. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Words.Run
public import proofs.«01_k».proof.Proof.Value.Equation

@[expose] public section

noncomputable section

namespace Cert.Proof

open Idealize.ShloMosaic Idealize.SL.Sem

theorem claim : Cert.Claim :=
  have ref : Cert.quiescent_ReferenceIdeal (hReferenceIdeal := Cert.ReferenceIdeal.Gen.facts) := fun m ρ _ =>
    (θ_run _ _ _).mono (fun r h => ⟨fun c => (h c).2, sem_eq_zero_of_no_sems rfl r.2⟩) (Cert.ReferenceIdeal.Value.run m ρ)
  ⟨Cert.Kernel.Gen.facts, Cert.KernelIdeal.Gen.facts, Cert.ReferenceIdeal.Gen.facts, Cert.Pre_finite_inputs.facts,
    fun m ρ _ => Cert.Kernel.Run.frame m ρ, fun m ρ _ => Cert.KernelIdeal.Run.frame m ρ,
    fun m ρ _ => Cert.KernelIdeal.Run.frame m ρ, ref, fun m ρ _ => ref m ρ trivial, trivial, Cert.Equation.algebraic⟩

end Cert.Proof

end
